-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x2048x1152 : Shape := ⟨3, ![3, 2048, 1152]⟩
abbrev S2176x1152 : Shape := ⟨2, ![2176, 1152]⟩
abbrev S_ : Shape := ⟨0, ![]⟩

class Facts : Prop where
  bitsLt_bf16_f32 : FTy.bits .bf16 < FTy.bits .f32
  reducesTo_S3x2048x1152_S_d0_1_2 : S3x2048x1152.ReducesTo [0, 1, 2] S_
  h_S_ : 0 < S_.numel
  reducesTo_S2176x1152_S_d0_1 : S2176x1152.ReducesTo [0, 1] S_

variable [Facts]

def fn {F : FTy → Type} [FloatOps F] (main_arg0 : FVec F S3x2048x1152 .bf16) (main_arg1 : FVec F S2176x1152 .f32) : IVec S_ 1 :=
  let main_v0 : FVec F S3x2048x1152 .f32 := (extf .f32 · bitsLt_bf16_f32) main_arg0
  let main_v1 : FVec F S3x2048x1152 .f32 := Host.absf main_v0
  let main_cst : FVec F S_ .f32 := constant S_ .f32 0xFF800000#32
  let main_v2 : FVec F S_ .f32 := (fun x v => Host.reduce FloatOps.maximumf x v reducesTo_S3x2048x1152_S_d0_1_2 h_S_) main_v1 main_cst
  let main_cst_0 : FVec F S_ .f32 := constant S_ .f32 0x7F7FFFFF#32
  let main_v3 : IVec S_ 1 := cmpf .ole main_v2 main_cst_0
  let main_v4 : FVec F S2176x1152 .f32 := Host.absf main_arg1
  let main_cst_1 : FVec F S_ .f32 := constant S_ .f32 0xFF800000#32
  let main_v5 : FVec F S_ .f32 := (fun x v => Host.reduce FloatOps.maximumf x v reducesTo_S2176x1152_S_d0_1 h_S_) main_v4 main_cst_1
  let main_cst_2 : FVec F S_ .f32 := constant S_ .f32 0x7F7FFFFF#32
  let main_v6 : IVec S_ 1 := cmpf .ole main_v5 main_cst_2
  let main_v7 : IVec S_ 1 := andi main_v3 main_v6
  main_v7
-- ==== Kernel.lean ====
abbrev S3x2048x1152 : Shape := ⟨3, ![3, 2048, 1152]⟩
abbrev S2176x1152 : Shape := ⟨2, ![2176, 1152]⟩
abbrev S6144x1152 : Shape := ⟨2, ![6144, 1152]⟩
abbrev S768x8x2176 : Shape := ⟨3, ![768, 8, 2176]⟩
abbrev S1x1 : Shape := ⟨2, ![1, 1]⟩
abbrev S4x64x8x2176 : Shape := ⟨4, ![4, 64, 8, 2176]⟩
abbrev S4 : Shape := ⟨1, ![4]⟩
abbrev S12 : Shape := ⟨1, ![12]⟩
abbrev S_ : Shape := ⟨0, ![]⟩
abbrev S1 : Shape := ⟨1, ![1]⟩
abbrev S544x1152 : Shape := ⟨2, ![544, 1152]⟩
abbrev S512x1152 : Shape := ⟨2, ![512, 1152]⟩
abbrev S8x1152 : Shape := ⟨2, ![8, 1152]⟩
abbrev S68x8x1152 : Shape := ⟨3, ![68, 8, 1152]⟩
abbrev S1x8x1152 : Shape := ⟨3, ![1, 8, 1152]⟩
abbrev S1x1x1 : Shape := ⟨3, ![1, 1, 1]⟩
abbrev S2x128 : Shape := ⟨2, ![2, 128]⟩
abbrev S1x2x128 : Shape := ⟨3, ![1, 2, 128]⟩
abbrev S16x1152 : Shape := ⟨2, ![16, 1152]⟩
abbrev S32x16x1152 : Shape := ⟨3, ![32, 16, 1152]⟩
abbrev S1x16x1152 : Shape := ⟨3, ![1, 16, 1152]⟩
abbrev S512x2176 : Shape := ⟨2, ![512, 2176]⟩
abbrev S64x8x2176 : Shape := ⟨3, ![64, 8, 2176]⟩
abbrev S1x64x8x2176 : Shape := ⟨4, ![1, 64, 8, 2176]⟩
abbrev S3x2048x2176 : Shape := ⟨3, ![3, 2048, 2176]⟩

abbrev nBuf : Space → Nat
  | .hbm => 10
  | .vmem => 5
  | .smem => 2
  | _ => 0

abbrev bufTy : (tb : Table) → Fin (tcTables nBuf tb) → BufTy
  | .hbm, ⟨0, _⟩ => ⟨S3x2048x1152, .bf16⟩
  | .hbm, ⟨1, _⟩ => ⟨S2176x1152, .f32⟩
  | .hbm, ⟨2, _⟩ => ⟨S6144x1152, .bf16⟩
  | .hbm, ⟨3, _⟩ => ⟨S768x8x2176, .bf16⟩
  | .hbm, ⟨4, _⟩ => ⟨S6144x1152, .fp8e5m2⟩
  | .hbm, ⟨5, _⟩ => ⟨S1x1, .f32⟩
  | .hbm, ⟨6, _⟩ => ⟨S2176x1152, .fp8e4m3⟩
  | .hbm, ⟨7, _⟩ => ⟨S1x1, .f32⟩
  | .hbm, ⟨8, _⟩ => ⟨S3x2048x2176, .bf16⟩
  | .hbm, ⟨9, _⟩ => ⟨S3x2048x1152, .fp8e5m2⟩
  | .local _ .vmem, ⟨0, _⟩ => ⟨S6144x1152, .bf16⟩
  | .local _ .vmem, ⟨1, _⟩ => ⟨S2176x1152, .f32⟩
  | .local _ .vmem, ⟨2, _⟩ => ⟨S2176x1152, .fp8e4m3⟩
  | .local _ .vmem, ⟨3, _⟩ => ⟨S6144x1152, .fp8e5m2⟩
  | .local _ .vmem, ⟨4, _⟩ => ⟨S4x64x8x2176, .bf16⟩
  | .local _ .smem, ⟨0, _⟩ => ⟨S1x1, .f32⟩
  | .local _ .smem, ⟨1, _⟩ => ⟨S1x1, .f32⟩
  | _, _ => ⟨S3x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_54 : BitVec 32 := 0#32
  let c4_i32_55 : BitVec 32 := 4#32
  let v65 : BitVec 32 := Scalar.addi c0_i32_54 c4_i32_55
  let c1_i32_56 : BitVec 32 := 1#32
  ⟨c0_i32_54, v65, c1_i32_56⟩
def k0_off1 (k0_t1 : Fin k0_t1_loop.trips) : Fin 1 → Nat :=
  let c0_i32_54 : BitVec 32 := 0#32
  let c1_i32_56 : BitVec 32 := 1#32
  let arg17 : BitVec 32 := Scf.iv c0_i32_54 c1_i32_56 k0_t1
  ![arg17.toNat]
def k0_off2 (k0_t1 : Fin k0_t1_loop.trips) : Fin 2 → Nat :=
  let c0_i32_54 : BitVec 32 := 0#32
  let c1_i32_56 : BitVec 32 := 1#32
  let arg17 : BitVec 32 := Scf.iv c0_i32_54 c1_i32_56 k0_t1
  let c544_i32_175 : BitVec 32 := 544#32
  let v189 : BitVec 32 := Scalar.muli arg17 c544_i32_175
  let c0_i32_176 : BitVec 32 := 0#32
  ![v189.toNat, 0]
def k0_off3 (k0_t1 : Fin k0_t1_loop.trips) : Fin 2 → Nat :=
  let c0_i32_54 : BitVec 32 := 0#32
  let c1_i32_56 : BitVec 32 := 1#32
  let arg17 : BitVec 32 := Scf.iv c0_i32_54 c1_i32_56 k0_t1
  let c544_i32_178 : BitVec 32 := 544#32
  let v194 : BitVec 32 := Scalar.muli arg17 c544_i32_178
  let v195 : Index := Scalar.indexCast v194
  let c0_179 : Index := 0#32
  ![v195.toNat, 0]
@[reducible] def k0_t2_loop : Scf.Loop 32 :=
  let c0_i32_69 : BitVec 32 := 0#32
  let c4_i32_70 : BitVec 32 := 4#32
  let v102 : BitVec 32 := Scalar.addi c0_i32_69 c4_i32_70
  let c1_i32_71 : BitVec 32 := 1#32
  ⟨c0_i32_69, v102, c1_i32_71⟩
def k0_off4 (k0_t2 : Fin k0_t2_loop.trips) : Fin 2 → Nat :=
  let c0_i32_69 : BitVec 32 := 0#32
  let c1_i32_71 : BitVec 32 := 1#32
  let arg17 : BitVec 32 := Scf.iv c0_i32_69 c1_i32_71 k0_t2
  let c544_i32_175 : BitVec 32 := 544#32
  let v189 : BitVec 32 := Scalar.muli arg17 c544_i32_175
  let v190 : Index := Scalar.indexCast v189
  let c0_176 : Index := 0#32
  ![v190.toNat, 0]
@[reducible] def k0_t3_loop : Scf.Loop 32 :=
  let c0_i32_74 : BitVec 32 := 0#32
  let c12_i32 : BitVec 32 := 12#32
  let v104 : BitVec 32 := Scalar.addi c0_i32_74 c12_i32
  let c1_i32_75 : BitVec 32 := 1#32
  ⟨c0_i32_74, v104, c1_i32_75⟩
def k0_off5 (k0_t3 : Fin k0_t3_loop.trips) : Fin 1 → Nat :=
  let c0_i32_74 : BitVec 32 := 0#32
  let c1_i32_75 : BitVec 32 := 1#32
  let arg17 : BitVec 32 := Scf.iv c0_i32_74 c1_i32_75 k0_t3
  ![arg17.toNat]
def k0_off6 (k0_t3 : Fin k0_t3_loop.trips) : Fin 2 → Nat :=
  let c0_i32_74 : BitVec 32 := 0#32
  let c1_i32_75 : BitVec 32 := 1#32
  let arg17 : BitVec 32 := Scf.iv c0_i32_74 c1_i32_75 k0_t3
  let c512_i32_175 : BitVec 32 := 512#32
  let v189 : BitVec 32 := Scalar.muli arg17 c512_i32_175
  let c0_i32_176 : BitVec 32 := 0#32
  ![v189.toNat, 0]
def k0_off7 (k0_t3 : Fin k0_t3_loop.trips) : Fin 2 → Nat :=
  let c0_i32_74 : BitVec 32 := 0#32
  let c1_i32_75 : BitVec 32 := 1#32
  let arg17 : BitVec 32 := Scf.iv c0_i32_74 c1_i32_75 k0_t3
  let c512_i32_178 : BitVec 32 := 512#32
  let v194 : BitVec 32 := Scalar.muli arg17 c512_i32_178
  let v195 : Index := Scalar.indexCast v194
  let c0_179 : Index := 0#32
  ![v195.toNat, 0]
@[reducible] def k0_t4_loop : Scf.Loop 32 :=
  let c0_i32_94 : BitVec 32 := 0#32
  let c12_i32_95 : BitVec 32 := 12#32
  let v144 : BitVec 32 := Scalar.addi c0_i32_94 c12_i32_95
  let c1_i32_96 : BitVec 32 := 1#32
  ⟨c0_i32_94, v144, c1_i32_96⟩
def k0_off8 (k0_t4 : Fin k0_t4_loop.trips) : Fin 2 → Nat :=
  let c0_i32_94 : BitVec 32 := 0#32
  let c1_i32_96 : BitVec 32 := 1#32
  let arg17 : BitVec 32 := Scf.iv c0_i32_94 c1_i32_96 k0_t4
  let c512_i32_175 : BitVec 32 := 512#32
  let v189 : BitVec 32 := Scalar.muli arg17 c512_i32_175
  let v191 : Index := Scalar.indexCast v189
  let c0_177 : Index := 0#32
  ![v191.toNat, 0]
def k0_off9 (k0_t4 : Fin k0_t4_loop.trips) : Fin 2 → Nat :=
  let c0_i32_94 : BitVec 32 := 0#32
  let c1_i32_96 : BitVec 32 := 1#32
  let arg17 : BitVec 32 := Scf.iv c0_i32_94 c1_i32_96 k0_t4
  let c512_i32_181 : BitVec 32 := 512#32
  let v206 : BitVec 32 := Scalar.muli arg17 c512_i32_181
  let c0_i32_182 : BitVec 32 := 0#32
  ![v206.toNat, 0]
def k0_cond1 (k0_t4 : Fin k0_t4_loop.trips) : BitVec 1 :=
  let c0_i32_94 : BitVec 32 := 0#32
  let c1_i32_96 : BitVec 32 := 1#32
  let arg17 : BitVec 32 := Scf.iv c0_i32_94 c1_i32_96 k0_t4
  let c4_i32_187 : BitVec 32 := 4#32
  let v211 : BitVec 1 := Scalar.cmpi .sge arg17 c4_i32_187
  let v212 : BitVec 32 := Scalar.extui v211
  let c0_i32_188 : BitVec 32 := 0#32
  let v213 : BitVec 1 := Scalar.cmpi .ne v212 c0_i32_188
  v213

def k0_off10 (k0_t4 : Fin k0_t4_loop.trips) : Fin 1 → Nat :=
  let c0_i32_94 : BitVec 32 := 0#32
  let c1_i32_96 : BitVec 32 := 1#32
  let arg17 : BitVec 32 := Scf.iv c0_i32_94 c1_i32_96 k0_t4
  let c4_i32_176 : BitVec 32 := 4#32
  let v190 : BitVec 32 := Scalar.remsi arg17 c4_i32_176
  ![v190.toNat]
def k0_off11 (k0_t4 : Fin k0_t4_loop.trips) : Fin 3 → Nat :=
  let c0_i32_94 : BitVec 32 := 0#32
  let c1_i32_96 : BitVec 32 := 1#32
  let arg17 : BitVec 32 := Scf.iv c0_i32_94 c1_i32_96 k0_t4
  let c4_i32_197 : BitVec 32 := 4#32
  let v228 : BitVec 32 := Scalar.subi arg17 c4_i32_197
  let c64_i32_198 : BitVec 32 := 64#32
  let v229 : BitVec 32 := Scalar.muli v228 c64_i32_198
  let c0_i32_199 : BitVec 32 := 0#32
  let c0_i32_200 : BitVec 32 := 0#32
  ![v229.toNat, 0, 0]
def k0_off12 (k0_t4 : Fin k0_t4_loop.trips) : Fin 4 → Nat :=
  let c0_i32_94 : BitVec 32 := 0#32
  let c1_i32_96 : BitVec 32 := 1#32
  let arg17 : BitVec 32 := Scf.iv c0_i32_94 c1_i32_96 k0_t4
  let c4_i32_176 : BitVec 32 := 4#32
  let v190 : BitVec 32 := Scalar.remsi arg17 c4_i32_176
  let c0_i32_201 : BitVec 32 := 0#32
  let c0_i32_202 : BitVec 32 := 0#32
  let c0_i32_203 : BitVec 32 := 0#32
  ![v190.toNat, 0, 0, 0]
def k0_off13 (k0_t4 : Fin k0_t4_loop.trips) : Fin 4 → Nat :=
  let c0_i32_94 : BitVec 32 := 0#32
  let c1_i32_96 : BitVec 32 := 1#32
  let arg17 : BitVec 32 := Scf.iv c0_i32_94 c1_i32_96 k0_t4
  let c4_i32_176 : BitVec 32 := 4#32
  let v190 : BitVec 32 := Scalar.remsi arg17 c4_i32_176
  let v218 : Index := Scalar.indexCast v190
  let c0_189 : Index := 0#32
  let c0_190 : Index := 0#32
  let c0_191 : Index := 0#32
  ![v218.toNat, 0, 0, 0]
def k0_off14 (k0_t4 : Fin k0_t4_loop.trips) : Fin 1 → Nat :=
  let c0_i32_94 : BitVec 32 := 0#32
  let c1_i32_96 : BitVec 32 := 1#32
  let arg17 : BitVec 32 := Scf.iv c0_i32_94 c1_i32_96 k0_t4
  let c4_i32_176 : BitVec 32 := 4#32
  let v190 : BitVec 32 := Scalar.remsi arg17 c4_i32_176
  ![v190.toNat]
def k0_off15 (k0_t4 : Fin k0_t4_loop.trips) : Fin 3 → Nat :=
  let c0_i32_94 : BitVec 32 := 0#32
  let c1_i32_96 : BitVec 32 := 1#32
  let arg17 : BitVec 32 := Scf.iv c0_i32_94 c1_i32_96 k0_t4
  let c64_i32 : BitVec 32 := 64#32
  let v222 : BitVec 32 := Scalar.muli arg17 c64_i32
  let c0_i32_192 : BitVec 32 := 0#32
  let c0_i32_193 : BitVec 32 := 0#32
  ![v222.toNat, 0, 0]
def k0_off16 (k0_t4 : Fin k0_t4_loop.trips) : Fin 4 → Nat :=
  let c0_i32_94 : BitVec 32 := 0#32
  let c1_i32_96 : BitVec 32 := 1#32
  let arg17 : BitVec 32 := Scf.iv c0_i32_94 c1_i32_96 k0_t4
  let c4_i32_176 : BitVec 32 := 4#32
  let v190 : BitVec 32 := Scalar.remsi arg17 c4_i32_176
  let c0_i32_194 : BitVec 32 := 0#32
  let c0_i32_195 : BitVec 32 := 0#32
  let c0_i32_196 : BitVec 32 := 0#32
  ![v190.toNat, 0, 0, 0]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S3x2048x1152 : Shape := ⟨3, ![3, 2048, 1152]⟩
abbrev S2176x1152 : Shape := ⟨2, ![2176, 1152]⟩
abbrev S3x2048x2176 : Shape := ⟨3, ![3, 2048, 2176]⟩
abbrev S1x1 : Shape := ⟨2, ![1, 1]⟩
abbrev S1x3x2048x1152 : Shape := ⟨4, ![1, 3, 2048, 1152]⟩
abbrev S1 : Shape := ⟨1, ![1]⟩
abbrev S1x1x1x1 : Shape := ⟨4, ![1, 1, 1, 1]⟩
abbrev S2x128 : Shape := ⟨2, ![2, 128]⟩
abbrev S1x2x128 : Shape := ⟨3, ![1, 2, 128]⟩
abbrev S1x1x1 : Shape := ⟨3, ![1, 1, 1]⟩
abbrev S1x2176x1152 : Shape := ⟨3, ![1, 2176, 1152]⟩
abbrev S6144x1152 : Shape := ⟨2, ![6144, 1152]⟩
abbrev S6144x2176 : Shape := ⟨2, ![6144, 2176]⟩

abbrev nBuf : Space → Nat
  | .hbm => 7
  | .vmem => 7
  | .smem => 0
  | _ => 0

abbrev bufTy : (tb : Table) → Fin (tcTables nBuf tb) → BufTy
  | .hbm, ⟨0, _⟩ => ⟨S3x2048x1152, .bf16⟩
  | .hbm, ⟨1, _⟩ => ⟨S2176x1152, .f32⟩
  | .hbm, ⟨2, _⟩ => ⟨S3x2048x2176, .bf16⟩
  | .hbm, ⟨3, _⟩ => ⟨S3x2048x1152, .fp8e5m2⟩
  | .hbm, ⟨4, _⟩ => ⟨S1x1, .f32⟩
  | .hbm, ⟨5, _⟩ => ⟨S2176x1152, .fp8e4m3⟩
  | .hbm, ⟨6, _⟩ => ⟨S1x1, .f32⟩
  | .local _ .vmem, ⟨0, _⟩ => ⟨S3x2048x1152, .bf16⟩
  | .local _ .vmem, ⟨1, _⟩ => ⟨S2176x1152, .f32⟩
  | .local _ .vmem, ⟨2, _⟩ => ⟨S3x2048x2176, .bf16⟩
  | .local _ .vmem, ⟨3, _⟩ => ⟨S3x2048x1152, .fp8e5m2⟩
  | .local _ .vmem, ⟨4, _⟩ => ⟨S1x1, .f32⟩
  | .local _ .vmem, ⟨5, _⟩ => ⟨S2176x1152, .fp8e4m3⟩
  | .local _ .vmem, ⟨6, _⟩ => ⟨S1x1, .f32⟩
  | _, _ => ⟨S3x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x2048x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2176x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2048x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048x1152 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2176x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBase.lean ====
/-
  Hand-written. What the kernel's own transfers move and how its buffers are cut: the row blocks of the weights (four
  slabs of 544 rows), of the activations' gradient (twelve chunks of 512 rows), of the result (twelve blocks of 64 x 8
  rows) and the four slots of the result's ring; the rules for starting and collecting one transfer between two such
  blocks, stated with ONE contents function a buffer so that the blocks rejoin.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The counters' embedding every transfer rule is used at. -/
abbrev EC : UEmb Counters 𝕄 := countersEmb (U := Pipeline.UD sig nD τ)

/-- The weakest precondition every piece of the body is run at. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A hand rule leaves its continuation applied, `(Prog.ret a).bind k`: the next statement is `k a`. -/
theorem ret_bind' {E : Type → Type} {α β : Type} (a : α) (k : α → Prog E β) : (Prog.ret a).bind k = k a := rfl

theorem wpPure (c : Dev nD) {α : Type} (a : α) (Q : α → sProp 𝕄) : Q a ⊢ WP c (pure a) Q := by
  show Q a ⊢ wp frame _ _ (pure a) Q
  rw [wp_pure]
  iintro H
  imodintro
  iexact H
theorem wpBind (c : Dev nD) {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  show _ ⊢ wp frame _ _ (p >>= k) Q
  rw [wp_bind]

/-! ## The blocks -/

theorem inbW (i : Fin 4) : ∀ a, (![544 * i.val, 0] : Fin 2 → Nat) a + S544x1152.size a ≤ S2176x1152.size a := by
  revert i; decide
theorem inbD (i : Fin 12) : ∀ a, (![512 * i.val, 0] : Fin 2 → Nat) a + S512x1152.size a ≤ S6144x1152.size a := by
  revert i; decide
theorem inbO (i : Fin 12) : ∀ a, (![64 * i.val, 0, 0] : Fin 3 → Nat) a + S64x8x2176.size a ≤ S768x8x2176.size a := by
  revert i; decide
theorem inbS (j : Fin 4) : ∀ a, (![j.val, 0, 0, 0] : Fin 4 → Nat) a + S1x64x8x2176.size a ≤ S4x64x8x2176.size a := by
  revert j; decide

/-- Slab `i` of the weights; -/
abbrev rW (i : Fin 4) : Rect S2176x1152 := Rect.unit ![544 * i.val, 0] S544x1152.size (inbW i)
/-- chunk `i` of the rows; -/
abbrev rD (i : Fin 12) : Rect S6144x1152 := Rect.unit ![512 * i.val, 0] S512x1152.size (inbD i)
/-- block `i` of the result; -/
abbrev rO (i : Fin 12) : Rect S768x8x2176 := Rect.unit ![64 * i.val, 0, 0] S64x8x2176.size (inbO i)
/-- slot `j` of the result's ring. -/
abbrev rS (j : Fin 4) : Rect S4x64x8x2176 := Rect.unit ![j.val, 0, 0, 0] S1x64x8x2176.size (inbS j)

theorem rW_disj : ∀ i ∈ (Finset.univ : Finset (Fin 4)), ∀ j ∈ (Finset.univ : Finset (Fin 4)), i ≠ j → Disjoint (rW i).set (rW j).set :=
  fun i _ j _ h => Rect.unit_disjoint (a := (0 : Fin 2)) (by
    have : i.val ≠ j.val := fun e => h (Fin.ext e)
    show 544 * i.val + 544 ≤ 544 * j.val ∨ 544 * j.val + 544 ≤ 544 * i.val; omega)
theorem rD_disj : ∀ i ∈ (Finset.univ : Finset (Fin 12)), ∀ j ∈ (Finset.univ : Finset (Fin 12)), i ≠ j → Disjoint (rD i).set (rD j).set :=
  fun i _ j _ h => Rect.unit_disjoint (a := (0 : Fin 2)) (by
    have : i.val ≠ j.val := fun e => h (Fin.ext e)
    show 512 * i.val + 512 ≤ 512 * j.val ∨ 512 * j.val + 512 ≤ 512 * i.val; omega)
theorem rO_disj : ∀ i ∈ (Finset.univ : Finset (Fin 12)), ∀ j ∈ (Finset.univ : Finset (Fin 12)), i ≠ j → Disjoint (rO i).set (rO j).set :=
  fun i _ j _ h => Rect.unit_disjoint (a := (0 : Fin 3)) (by
    have : i.val ≠ j.val := fun e => h (Fin.ext e)
    show 64 * i.val + 64 ≤ 64 * j.val ∨ 64 * j.val + 64 ≤ 64 * i.val; omega)
theorem rS_disj : ∀ i ∈ (Finset.univ : Finset (Fin 4)), ∀ j ∈ (Finset.univ : Finset (Fin 4)), i ≠ j → Disjoint (rS i).set (rS j).set :=
  fun i _ j _ h => Rect.unit_disjoint (a := (0 : Fin 4)) (by
    have : i.val ≠ j.val := fun e => h (Fin.ext e)
    show i.val + 1 ≤ j.val ∨ j.val + 1 ≤ i.val; omega)

theorem rW_cover : Finset.univ.biUnion (fun i => (rW i).set) = Finset.univ := by
  ext x
  simp only [Finset.mem_biUnion, Finset.mem_univ, true_and, iff_true, Rect.mem_set_unit]
  have h0 : (x 0 : ℕ) < 2176 := (x 0).isLt
  have h1 : (x 1 : ℕ) < 1152 := (x 1).isLt
  refine ⟨⟨(x 0 : ℕ) / 544, by omega⟩, fun a => ?_⟩
  fin_cases a
  · show 544 * ((x 0 : ℕ) / 544) ≤ (x 0 : ℕ) ∧ (x 0 : ℕ) < 544 * ((x 0 : ℕ) / 544) + 544; omega
  · show 0 ≤ (x 1 : ℕ) ∧ (x 1 : ℕ) < 0 + 1152; omega
theorem rD_cover : Finset.univ.biUnion (fun i => (rD i).set) = Finset.univ := by
  ext x
  simp only [Finset.mem_biUnion, Finset.mem_univ, true_and, iff_true, Rect.mem_set_unit]
  have h0 : (x 0 : ℕ) < 6144 := (x 0).isLt
  have h1 : (x 1 : ℕ) < 1152 := (x 1).isLt
  refine ⟨⟨(x 0 : ℕ) / 512, by omega⟩, fun a => ?_⟩
  fin_cases a
  · show 512 * ((x 0 : ℕ) / 512) ≤ (x 0 : ℕ) ∧ (x 0 : ℕ) < 512 * ((x 0 : ℕ) / 512) + 512; omega
  · show 0 ≤ (x 1 : ℕ) ∧ (x 1 : ℕ) < 0 + 1152; omega
theorem rO_cover : Finset.univ.biUnion (fun i => (rO i).set) = Finset.univ := by
  ext x
  simp only [Finset.mem_biUnion, Finset.mem_univ, true_and, iff_true, Rect.mem_set_unit]
  have h0 : (x 0 : ℕ) < 768 := (x 0).isLt
  have h1 : (x 1 : ℕ) < 8 := (x 1).isLt
  have h2 : (x 2 : ℕ) < 2176 := (x 2).isLt
  refine ⟨⟨(x 0 : ℕ) / 64, by omega⟩, fun a => ?_⟩
  fin_cases a
  · show 64 * ((x 0 : ℕ) / 64) ≤ (x 0 : ℕ) ∧ (x 0 : ℕ) < 64 * ((x 0 : ℕ) / 64) + 64; omega
  · show 0 ≤ (x 1 : ℕ) ∧ (x 1 : ℕ) < 0 + 8; omega
  · show 0 ≤ (x 2 : ℕ) ∧ (x 2 : ℕ) < 0 + 2176; omega
theorem rS_cover : Finset.univ.biUnion (fun i => (rS i).set) = Finset.univ := by
  ext x
  simp only [Finset.mem_biUnion, Finset.mem_univ, true_and, iff_true, Rect.mem_set_unit]
  have h0 : (x 0 : ℕ) < 4 := (x 0).isLt
  have h1 : (x 1 : ℕ) < 64 := (x 1).isLt
  have h2 : (x 2 : ℕ) < 8 := (x 2).isLt
  have h3 : (x 3 : ℕ) < 2176 := (x 3).isLt
  refine ⟨x 0, fun a => ?_⟩
  fin_cases a
  · show (x 0 : ℕ) ≤ (x 0 : ℕ) ∧ (x 0 : ℕ) < (x 0 : ℕ) + 1; omega
  · show 0 ≤ (x 1 : ℕ) ∧ (x 1 : ℕ) < 0 + 64; omega
  · show 0 ≤ (x 2 : ℕ) ∧ (x 2 : ℕ) < 0 + 8; omega
  · show 0 ≤ (x 3 : ℕ) ∧ (x 3 : ℕ) < 0 + 2176; omega

/-- Buffer `b`'s elements `I` held at share `q` and contents `f`. -/
abbrev on (c : Dev nD) (b : Ref sig .tc) (I : Finset b.ty.Idx) (q : PosShare TreeShare) (f : b.ty.Contents (Elt F)) : sProp 𝕄 :=
  (c : Thread nD τ).loc b ↦[I]{q} f

/-- A buffer held by a family of disjoint blocks that cover it is the buffer held whole. -/
theorem on_blocks (c : Dev nD) (b : Ref sig .tc) {n : ℕ} (K : Fin n → Finset b.ty.Idx) (q : PosShare TreeShare) (f : b.ty.Contents (Elt F))
    (hd : ∀ i ∈ (Finset.univ : Finset (Fin n)), ∀ j ∈ (Finset.univ : Finset (Fin n)), i ≠ j → Disjoint (K i) (K j))
    (hc : Finset.univ.biUnion K = Finset.univ) :
    (on c b Finset.univ q f : sProp 𝕄) = bigSep Finset.univ fun i => on c b (K i) q f := by
  rw [← hc]; exact pointsTo_biUnion _ _ hd

/-- The same at contents nothing names. -/
theorem on_blocks_join (c : Dev nD) (b : Ref sig .tc) {n : ℕ} (K : Fin n → Finset b.ty.Idx) (f₀ : b.ty.Contents (Elt F))
    (hd : ∀ i ∈ (Finset.univ : Finset (Fin n)), ∀ j ∈ (Finset.univ : Finset (Fin n)), i ≠ j → Disjoint (K i) (K j))
    (hc : Finset.univ.biUnion K = Finset.univ) :
    (bigSep Finset.univ fun i => iprop(∃ f, on c b (K i) fullShare f) : sProp 𝕄) ⊢ iprop(∃ f, on c b Finset.univ fullShare f) := by
  haveI : Nonempty (b.ty.Contents (Elt F)) := ⟨f₀⟩
  refine (bigSep_exists_pi (Y := fun _ => b.ty.Contents (Elt F)) Finset.univ (fun i f => on c b (K i) fullShare f)).trans ?_
  iintro ⟨%fs, H⟩
  ihave H := (pointsTo_biUnion_join Finset.univ K fs f₀ hd) $$ H
  icases H with ⟨%g, -, H⟩
  iexists g
  rw [hc]; iexact H

/-! ## One transfer -/

/-- What a transfer lands in its destination, when the destination's buffer is described by `G` and `G` reads there
    what the source reads. -/
theorem landed_eq {sp sp' : Space} {s : Shape} {e : EltTy} (c : Dev nD) (src : Memref sig .tc sp s e) (dst : Memref sig .tc sp' s e)
    (fs : src.view.ty.Contents (Elt F)) (fd G : dst.view.ty.Contents (Elt F))
    (h : dst.view.read (Elt F) G = src.view.read (Elt F) fs) :
    (dst.view.loc (c : Thread nD τ) ↦[dst.view.set]{fullShare} dst.view.write (Elt F) fd (ReadAs.same.apply (src.view.read (Elt F) fs)) Finset.univ : sProp 𝕄)
      = (dst.view.loc (c : Thread nD τ) ↦[dst.view.set]{fullShare} G) := by
  refine pointsTo_congr fun i hi => ?_
  obtain ⟨x, -, rfl⟩ := Finset.mem_map.mp hi
  rw [View.write_emb_of_mem _ _ (Finset.mem_univ x)]
  have := congrFun h x
  rw [View.read_apply] at this
  show _root_.cast _ (src.view.read (Elt F) fs x) = G (dst.view.emb x)
  rw [← this, cast_cast, cast_eq]

/-- Starting a transfer between two views whose buffers are described: the flight delivers the destination's block at
    the description and the source's block back. -/
theorem wp_start {sp sp' : Space} {s : Shape} {e : EltTy} (c : Dev nD) {α : Type} {Q : α → sProp 𝕄} {src : Memref sig .tc sp s e} {dst : Memref sig .tc sp' s e} {sm : SemLoc sig}
    {hsrc : src.view.WordExact} {hdst : dst.view.WordExact} {hsem : DmaTarget.Typed (nD := nD) (τ := τ) (p := Proc.tc) sp sm (.here dst)}
    {k : PUnit → Prog (TpuEff nD τ sig (Elt F) Λ₀ .tc) α} (q : PosShare TreeShare) (N : ℕ) (fs : src.view.ty.Contents (Elt F))
    (fd G : dst.view.ty.Contents (Elt F)) (hN : dst.view.amount sm = N) (hN0 : 0 < N)
    (h : dst.view.read (Elt F) G = src.view.read (Elt F) fs) :
    iprop((src.view.loc (c : Thread nD τ) ↦[src.view.set]{q} fs) ∗ (dst.view.loc (c : Thread nD τ) ↦[dst.view.set]{fullShare} fd) ∗ semVal ((c : Thread nD τ), sm) 0)
      ⊢ iprop((Transfers.Flight EC (c : Thread nD τ) sm () N iprop((dst.view.loc (c : Thread nD τ) ↦[dst.view.set]{fullShare} G)
                                    ∗ (src.view.loc (c : Thread nD τ) ↦[src.view.set]{q} fs))
              -∗ WP c (k ⟨⟩) Q)
          -∗ WP c (.op (.enqueueDma src (.here dst) sm hsrc hdst hsem) k) Q) := by
  iintro H Hk
  iapply (Transfers.wp_dmaLocal EC Variants.none (c : Thread nD τ) none (src := src) (dst := dst) () N hN hN0 subset_rfl (fs := fs) (fd := fd) (q := q)) $$ H
  rw [landed_eq c src dst fs fd G h]
  iexact Hk

/-- Collecting it. -/
theorem wp_collect {sp sp' : Space} {s s' : Shape} {e e' : EltTy} (c : Dev nD) {α : Type} {Q : α → sProp 𝕄} {sem : DmaSem sig}
    {srcw : Memref sig .tc sp' s' e'} {dstw : Memref sig .tc sp s e} {hsrc : srcw.view.WordExact} {hdst : dstw.view.WordExact}
    {k : PUnit → Prog (TpuEff nD τ sig (Elt F) Λ₀ .tc) α} {N : ℕ} (hN : dstw.view.dmaCredit = N) {D : sProp 𝕄} :
    iprop(Transfers.Flight EC (c : Thread nD τ) (.dma sem) () N D ∗ (∃ W, owes (c : Thread nD τ) 0 W))
      ⊢ iprop((iprop(D ∗ semVal ((c : Thread nD τ), .dma sem) 0 ∗ (∃ W, owes (c : Thread nD τ) 0 W)) -∗ WP c (k ⟨⟩) Q)
          -∗ WP c (.op (.waitDma2 sem srcw dstw hsrc hdst) k) Q) := by
  iintro ⟨Hf, %W, HO⟩ Hk
  iapply (Transfers.wp_waitLocal EC Variants.none (c : Thread nD τ) none () hN (D := D) (W := W)) $$ [Hf HO]
  · isplitl [Hf]; · iexact Hf
    iexact HO
  iintro ⟨HD, Hv, HO⟩
  iapply Hk
  isplitl [HD]; · iexact HD
  isplitl [Hv]; · iexact Hv
  iexists _; iexact HO

/-- A load of a block the core holds. -/
theorem wp_loadB (c : Dev nD) {cs : CoreSpace} {s : Shape} {e : EltTy} {α : Type} {Q : α → sProp 𝕄} {m : Memref sig .tc cs s e} {r : Rect s} {hl : m.view.LoadsAt r}
    {k : (r.shape.Idx → Elt F e) → Prog (TpuEff nD τ sig (Elt F) Λ₀ .tc) α} {I : Finset m.view.ty.Idx} {q : PosShare TreeShare}
    {f : m.view.ty.Contents (Elt F)} {w : r.shape.Idx → Elt F e} (hI : (m.access r).set ⊆ I) (hw : (m.access r).read (Elt F) f = w) :
    (m.view.loc (c : Thread nD τ) ↦[I]{q} f : sProp 𝕄)
      ⊢ iprop(((m.view.loc (c : Thread nD τ) ↦[I]{q} f) -∗ WP c (k w) Q) -∗ WP c (.op (.load m r hl) k) Q) := by
  subst hw
  iintro H Hk
  iapply (wp_load_rect (defs := defs₀ (F := F)) (Γ := .empty) Variants.none (c : Thread nD τ) none Set.univ (m := m) (r := r) (hl := hl) (k := k) (S := I) (q := q) (f := f) hI) $$ H
  iexact Hk

/-- A store of a whole block the core holds, its buffer afterwards described by `G`. -/
theorem wp_storeB (c : Dev nD) {cs : CoreSpace} {s : Shape} {e : EltTy} {α : Type} {Q : α → sProp 𝕄} {m : Memref sig .tc cs s e} {r : Rect s} {w : r.shape.Idx → Elt F e}
    {hx : (m.access r).Stores Finset.univ} {hm}
    {k : PUnit → Prog (TpuEff nD τ sig (Elt F) Λ₀ .tc) α} {I : Finset m.view.ty.Idx}
    {f : m.view.ty.Contents (Elt F)} (G : m.view.ty.Contents (Elt F)) (hI : (m.access r).set = I) (hw : (m.access r).read (Elt F) G = w) :
    (m.view.loc (c : Thread nD τ) ↦[I]{fullShare} f : sProp 𝕄)
      ⊢ iprop(((m.view.loc (c : Thread nD τ) ↦[I]{fullShare} G) -∗ WP c (k ⟨⟩) Q) -∗ WP c (.op (.store m r w Finset.univ hx hm) k) Q) := by
  subst hI
  have e : ((m.access r).loc (c : Thread nD τ) ↦[(m.access r).set]{fullShare} (m.access r).write (Elt F) f w Finset.univ : sProp 𝕄)
      = ((m.access r).loc (c : Thread nD τ) ↦[(m.access r).set]{fullShare} G) := by
    refine pointsTo_congr fun i hi => ?_
    obtain ⟨x, -, rfl⟩ := Finset.mem_map.mp hi
    rw [View.write_emb_of_mem _ _ (Finset.mem_univ x), ← hw, View.read_apply, cast_cast, cast_eq]
  iintro H Hk
  iapply (wp_store (defs := defs₀ (F := F)) (Γ := .empty) Variants.none (c : Thread nD τ) none Set.univ (m := m) (r := r) (w := w) (Mk := Finset.univ) (hx := hx) (hm := hm) (k := k) (f := f)
    (S := (m.access r).set) (by rw [View.setOn_univ])) $$ H
  rw [e]
  iexact Hk

/-! ## A family updated at one member -/

/-- Two families that agree off `i`: member `i` is taken out of the one and put back as the other's. -/
theorem family_swap {n : ℕ} (i : Fin n) (Φ Ψ : Fin n → sProp 𝕄) (h : ∀ j, j ≠ i → Φ j = Ψ j) :
    bigSep Finset.univ Φ ⊢ iprop(Φ i ∗ (Ψ i -∗ bigSep Finset.univ Ψ)) := by
  rw [bigSep_univ_split i (Φ := Φ), bigSep_univ_split i (Φ := Ψ),
    bigSep_congr (s := Finset.univ.erase i) (Φ := Φ) (Ψ := Ψ) fun j hj => h j (Finset.ne_of_mem_erase hj)]
  show iprop(Φ i ∗ bigSep (Finset.univ.erase i) Ψ) ⊢ iprop(Φ i ∗ (Ψ i -∗ iprop(Ψ i ∗ bigSep (Finset.univ.erase i) Ψ)))
  iintro ⟨H, HR⟩
  isplitl [H]; · iexact H
  iintro H
  isplitl [H]; · iexact H
  iexact HR

end Cert.Kernel.Hand
-- ==== Proof.KernelLoad.lean ====
/-
  Hand-written. The kernel's loads: the weights' four slabs and the rows' twelve chunks are started on cells of their own,
  then collected in turn, each loop folding the running maxima of the magnitudes over the block that has landed.
-/
module

public import proofs.«01_k».proof.Proof.KernelBase

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The weights -/

/-- Slab `i`'s cell. -/
abbrev cellW (i : Fin 4) : DmaSem sig := ⟨2 + i.val, by have := i.isLt; show 2 + i.val < 24; omega⟩
/-- One slab's credit. -/
def NW : ℕ := cc0_scratch1.dmaCredit S544x1152 .f32
theorem NW_pos : 0 < NW := sig.dmaCredit_pos _ _ _ _ _ (by decide)

abbrev sW (off : Fin 2 → ℕ) (inb : ∀ a, off a + S544x1152.size a ≤ S2176x1152.size a) : Memref sig .tc .hbm S544x1152 .f32 :=
  (Memref.whole main_arg1 : Memref sig .tc .hbm S2176x1152 .f32).slice (Rect.unit (s := S2176x1152) off S544x1152.size inb) (fun _ => rfl)
abbrev dW (off : Fin 2 → ℕ) (inb : ∀ a, off a + S544x1152.size a ≤ S2176x1152.size a) : Memref sig .tc .vmem S544x1152 .f32 :=
  (Memref.whole cc0_scratch1 : Memref sig .tc .vmem S2176x1152 .f32).slice (Rect.unit (s := S2176x1152) off S544x1152.size inb) (fun _ => rfl)

theorem sW_set (off inb) : (sW off inb).view.set = (Rect.unit (s := S2176x1152) off S544x1152.size inb).set := View.set_slice_whole _ _
theorem dW_set (off inb) : (dW off inb).view.set = (Rect.unit (s := S2176x1152) off S544x1152.size inb).set := View.set_slice_whole _ _
theorem dW_credit (off inb) : (dW off inb).view.dmaCredit = NW := rfl
theorem dW_read (off inb) (f : S2176x1152.Idx → Elt F .f32) : (dW off inb).view.read (Elt F) f = (sW off inb).view.read (Elt F) f := rfl

/-- Slab `i` before its transfer: the source's block, the destination's, the cell at zero; -/
abbrev preW (c : Dev nD) (f : S2176x1152.Idx → Elt F .f32) (i : Fin 4) : sProp 𝕄 :=
  iprop(on c main_arg1 (rW i).set fullShare f ∗ (∃ g, on c cc0_scratch1 (rW i).set fullShare g) ∗ semVal ((c : Thread nD τ), SemLoc.dma (cellW i)) 0)
/-- on its way; -/
abbrev flyW (c : Dev nD) (f : S2176x1152.Idx → Elt F .f32) (i : Fin 4) : sProp 𝕄 :=
  Transfers.Flight EC (c : Thread nD τ) (SemLoc.dma (cellW i)) () NW
    iprop(on c cc0_scratch1 (rW i).set fullShare f ∗ on c main_arg1 (rW i).set fullShare f)
/-- landed. -/
abbrev hereW (c : Dev nD) (f : S2176x1152.Idx → Elt F .f32) (i : Fin 4) : sProp 𝕄 :=
  iprop(on c cc0_scratch1 (rW i).set fullShare f ∗ on c main_arg1 (rW i).set fullShare f ∗ semVal ((c : Thread nD τ), SemLoc.dma (cellW i)) 0)

theorem startW (c : Dev nD) (f : S2176x1152.Idx → Elt F .f32) {α : Type} {Q : α → sProp 𝕄} (i : Fin 4) {off : Fin 2 → ℕ}
    {inb : ∀ a, off a + S544x1152.size a ≤ S2176x1152.size a} {inb' : ∀ a, off a + S544x1152.size a ≤ S2176x1152.size a} {sem : DmaSem sig}
    {hsrc : (sW off inb).view.WordExact} {hdst : (dW off inb').view.WordExact}
    {hsem} {k : PUnit → Prog (TpuEff nD τ sig (Elt F) Λ₀ .tc) α}
    (hoff : off = ![544 * i.val, 0]) (hs : sem = cellW i) :
    preW c f i ⊢ iprop((flyW c f i -∗ WP c (k ⟨⟩) Q) -∗ WP c (.op (.enqueueDma (sW off inb) (.here (dW off inb')) (.dma sem) hsrc hdst hsem) k) Q) := by
  subst hoff; subst hs
  iintro ⟨Hs, ⟨%g, Hd⟩, Hv⟩ Hk
  iapply (wp_start c (src := sW _ inb) (dst := dW _ inb') (hsrc := hsrc) (hdst := hdst) (hsem := hsem) fullShare NW f g f (dW_credit _ _) NW_pos (dW_read _ _ f)) $$ [Hs Hd Hv]
  · rw [sW_set, dW_set]
    isplitl [Hs]; · iexact Hs
    isplitl [Hd]; · iexact Hd
    iexact Hv
  rw [sW_set, dW_set]
  iexact Hk

theorem collectW (c : Dev nD) (f : S2176x1152.Idx → Elt F .f32) {α : Type} {Q : α → sProp 𝕄} (i : Fin 4) {off : Fin 2 → ℕ}
    {inb : ∀ a, off a + S544x1152.size a ≤ S2176x1152.size a} {inb' : ∀ a, off a + S544x1152.size a ≤ S2176x1152.size a} {sem : DmaSem sig}
    {hsrc : (sW off inb).view.WordExact} {hdst : (dW off inb').view.WordExact}
    {k : PUnit → Prog (TpuEff nD τ sig (Elt F) Λ₀ .tc) α} (hs : sem = cellW i) :
    iprop(flyW c f i ∗ (∃ W, owes (c : Thread nD τ) 0 W)) ⊢ iprop((iprop(hereW c f i ∗ (∃ W, owes (c : Thread nD τ) 0 W)) -∗ WP c (k ⟨⟩) Q)
      -∗ WP c (.op (.waitDma2 sem (sW off inb) (dW off inb') hsrc hdst) k) Q) := by
  subst hs
  iintro H Hk
  iapply (wp_collect c (srcw := sW off inb) (dstw := dW off inb') (hsrc := hsrc) (hdst := hdst) (N := NW) (dW_credit _ _)) $$ H
  iintro ⟨⟨Hd, Hs⟩, Hv, HO⟩
  iapply Hk
  isplitl [Hd Hs Hv]
  · isplitl [Hd]; · iexact Hd
    isplitl [Hs]; · iexact Hs
    iexact Hv
  iexact HO

/-- The block a load of the whole buffer `f` through rectangle `r` reads. -/
abbrev blk {s : Shape} {A : Type} (f : s.Idx → A) (r : Rect s) : r.shape.Idx → A := fun x => f (r.emb x)

theorem loadW (c : Dev nD) (f : S2176x1152.Idx → Elt F .f32) {α : Type} {Q : α → sProp 𝕄} (i : Fin 4) {off : Fin 2 → ℕ}
    {inb : ∀ a, off a + S544x1152.size a ≤ S2176x1152.size a}
    {hl : (Memref.whole cc0_scratch1 : Memref sig .tc .vmem S2176x1152 .f32).view.LoadsAt (Rect.unit (s := S2176x1152) off S544x1152.size inb).toLoadRect}
    {k : (S544x1152.Idx → Elt F .f32) → Prog (TpuEff nD τ sig (Elt F) Λ₀ .tc) α} (hoff : off = ![544 * i.val, 0]) :
    on c cc0_scratch1 (rW i).set fullShare f ⊢ iprop((on c cc0_scratch1 (rW i).set fullShare f -∗ WP c (k (blk f (rW i))) Q)
      -∗ WP c (.op (.load (Memref.whole cc0_scratch1 : Memref sig .tc .vmem S2176x1152 .f32) (Rect.unit (s := S2176x1152) off S544x1152.size inb).toLoadRect hl) k) Q) := by
  subst hoff
  have h1 : (((Memref.whole cc0_scratch1 : Memref sig .tc .vmem S2176x1152 .f32)).access (rW i)).set ⊆ (rW i).set := by rw [View.set_slice_whole]
  have h2 : (((Memref.whole cc0_scratch1 : Memref sig .tc .vmem S2176x1152 .f32)).access (rW i)).read (Elt F) f = blk f (rW i) := rfl
  exact wp_loadB c (m := (Memref.whole cc0_scratch1 : Memref sig .tc .vmem S2176x1152 .f32)) (r := rW i) (hl := hl) (k := k) (f := f) (w := blk f (rW i)) (I := (rW i).set) (q := fullShare) h1 h2

/-- The running maxima over the first `k` slabs. -/
def acc1 (f : S2176x1152.Idx → Elt F .f32) : ℕ → FVec F S8x1152 .f32
  | 0 => k0_pay4 (F := F)
  | k + 1 => if h : k < 4 then k0_pay5 (acc1 f k) (blk f (rW ⟨k, h⟩)) else acc1 f k

theorem trips1 : k0_t1_loop.trips = 4 := by decide

abbrev body1 : Fin k0_t1_loop.trips → FVec F S8x1152 .f32 → Prog (TpuEff nD τ sig (Elt F) Λ₀ .tc) (FVec F S8x1152 .f32) :=
  k0_t1_body (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9

def inv1 (c : Dev nD) (f : S2176x1152.Idx → Elt F .f32) (k : ℕ) (acc : FVec F S8x1152 .f32) : sProp 𝕄 :=
  iprop(⌜acc = acc1 f k⌝ ∗ (∃ W, owes (c : Thread nD τ) 0 W) ∗ bigSep Finset.univ fun i : Fin 4 => if i.val < k then hereW c f i else flyW c f i)

theorem sem1 : ∀ k : Fin k0_t1_loop.trips, ((cc0_scratch5.slice (Rect.unit (s := S4) (k0_off1 k) S1.size (k0_off1_inb k))).squeeze S_ squeezes_S1_S_).sem
    = cellW (k.cast trips1) := by decide

theorem step1 (c : Dev nD) (f : S2176x1152.Idx → Elt F .f32) (k : Fin k0_t1_loop.trips) (acc : FVec F S8x1152 .f32) :
    inv1 c f k.val acc ⊢ WP c (body1 k acc) (inv1 c f (k.val + 1)) := by
  have hk : k.val < 4 := trips1 ▸ k.isLt
  unfold inv1
  iintro ⟨%hacc, HO, HB⟩
  subst hacc
  ihave HB := (family_swap (⟨k.val, hk⟩ : Fin 4) (fun i : Fin 4 => if i.val < k.val then hereW c f i else flyW c f i)
    (fun i : Fin 4 => if i.val < k.val + 1 then hereW c f i else flyW c f i) (fun j hj => by
      have : j.val ≠ k.val := fun e => hj (Fin.ext e)
      by_cases h : j.val < k.val
      · simp only [if_pos h, if_pos (show j.val < k.val + 1 by omega)]
      · simp only [if_neg h, if_neg (show ¬ j.val < k.val + 1 by omega)])) $$ HB
  rw [if_neg (show ¬ (⟨k.val, hk⟩ : Fin 4).val < k.val from lt_irrefl _), if_pos (show (⟨k.val, hk⟩ : Fin 4).val < k.val + 1 from Nat.lt_succ_self _)]
  icases HB with ⟨Hf, HB⟩
  unfold body1 k0_t1_body
  dsimp only
  rw [sem1 k]
  iapply (collectW c f ⟨k.val, hk⟩ rfl) $$ [Hf HO]
  · isplitl [Hf]; · iexact Hf
    iexact HO
  iintro ⟨⟨Hd, Hs, Hv⟩, HO⟩
  simp only [ret_bind']
  iapply (loadW c f ⟨k.val, hk⟩ (k0_off3_eq k)) $$ Hd
  iintro Hd
  simp only [ret_bind']
  iapply (wpPure c _ _)
  isplitr
  · ipureintro
    show k0_pay5 (acc1 f k.val) (blk f (rW ⟨k.val, hk⟩)) = acc1 f (k.val + 1)
    rw [acc1, dif_pos hk]
  isplitl [HO]; · iexact HO
  iapply HB
  isplitl [Hd]; · iexact Hd
  isplitl [Hs]; · iexact Hs
  iexact Hv

/-- The loop over the slabs: every slab landed, the maxima folded. -/
theorem loop1 (c : Dev nD) (f : S2176x1152.Idx → Elt F .f32) {α : Type} {Q : α → sProp 𝕄}
    {kk : FVec F S8x1152 .f32 → Prog (TpuEff nD τ sig (Elt F) Λ₀ .tc) α} :
    iprop((∃ W, owes (c : Thread nD τ) 0 W) ∗ bigSep Finset.univ (flyW c f))
      ⊢ iprop((iprop((∃ W, owes (c : Thread nD τ) 0 W) ∗ bigSep Finset.univ (hereW c f)) -∗ WP c (kk (acc1 f 4)) Q)
          -∗ WP c (Scf.Loop.for k0_t1_loop k0_t1_ok (k0_pay4 (F := F)) body1 >>= kk) Q) := by
  iintro ⟨HO, HB⟩ Hk
  iapply (Scf.wp_for_bind frame (wpE (defs₀ (F := F)) Variants.none (c : Thread nD τ) none) Set.univ k0_t1_loop.lb k0_t1_loop.ub k0_t1_loop.st k0_t1_ok
    (k0_pay4 (F := F)) body1 (inv1 c f) (step1 c f)) $$ [HO HB]
  · unfold inv1
    isplitr
    · ipureintro; rfl
    isplitl [HO]; · iexact HO
    simp only [Nat.not_lt_zero, if_false]
    iexact HB
  iintro %acc HI
  rw [show Scf.trips k0_t1_loop.lb k0_t1_loop.ub k0_t1_loop.st = 4 from trips1]
  unfold inv1
  icases HI with ⟨%hacc, HO, HB⟩
  subst hacc
  rw [show (fun i : Fin 4 => if i.val < 4 then hereW c f i else flyW c f i) = hereW c f from funext fun i => if_pos i.isLt]
  iapply Hk
  isplitl [HO]; · iexact HO
  iexact HB

/-! ## The rows -/

/-- Chunk `i`'s cell. -/
abbrev cellD (i : Fin 12) : DmaSem sig := ⟨6 + i.val, by have := i.isLt; show 6 + i.val < 24; omega⟩
/-- One chunk's credit. -/
def ND : ℕ := cc0_scratch0.dmaCredit S512x1152 .bf16
theorem ND_pos : 0 < ND := sig.dmaCredit_pos _ _ _ _ _ (by decide)

abbrev sD (off : Fin 2 → ℕ) (inb : ∀ a, off a + S512x1152.size a ≤ S6144x1152.size a) : Memref sig .tc .hbm S512x1152 .bf16 :=
  (Memref.whole main_v0 : Memref sig .tc .hbm S6144x1152 .bf16).slice (Rect.unit (s := S6144x1152) off S512x1152.size inb) (fun _ => rfl)
abbrev dD (off : Fin 2 → ℕ) (inb : ∀ a, off a + S512x1152.size a ≤ S6144x1152.size a) : Memref sig .tc .vmem S512x1152 .bf16 :=
  (Memref.whole cc0_scratch0 : Memref sig .tc .vmem S6144x1152 .bf16).slice (Rect.unit (s := S6144x1152) off S512x1152.size inb) (fun _ => rfl)

theorem sD_set (off inb) : (sD off inb).view.set = (Rect.unit (s := S6144x1152) off S512x1152.size inb).set := View.set_slice_whole _ _
theorem dD_set (off inb) : (dD off inb).view.set = (Rect.unit (s := S6144x1152) off S512x1152.size inb).set := View.set_slice_whole _ _
theorem dD_credit (off inb) : (dD off inb).view.dmaCredit = ND := rfl
theorem dD_read (off inb) (f : S6144x1152.Idx → Elt F .bf16) : (dD off inb).view.read (Elt F) f = (sD off inb).view.read (Elt F) f := rfl

/-- Chunk `i` before its transfer: the source's block, the destination's, the cell at zero; -/
abbrev preD (c : Dev nD) (f : S6144x1152.Idx → Elt F .bf16) (i : Fin 12) : sProp 𝕄 :=
  iprop(on c main_v0 (rD i).set fullShare f ∗ (∃ g, on c cc0_scratch0 (rD i).set fullShare g) ∗ semVal ((c : Thread nD τ), SemLoc.dma (cellD i)) 0)
/-- on its way; -/
abbrev flyD (c : Dev nD) (f : S6144x1152.Idx → Elt F .bf16) (i : Fin 12) : sProp 𝕄 :=
  Transfers.Flight EC (c : Thread nD τ) (SemLoc.dma (cellD i)) () ND
    iprop(on c cc0_scratch0 (rD i).set fullShare f ∗ on c main_v0 (rD i).set fullShare f)
/-- landed. -/
abbrev hereD (c : Dev nD) (f : S6144x1152.Idx → Elt F .bf16) (i : Fin 12) : sProp 𝕄 :=
  iprop(on c cc0_scratch0 (rD i).set fullShare f ∗ on c main_v0 (rD i).set fullShare f ∗ semVal ((c : Thread nD τ), SemLoc.dma (cellD i)) 0)

theorem startD (c : Dev nD) (f : S6144x1152.Idx → Elt F .bf16) {α : Type} {Q : α → sProp 𝕄} (i : Fin 12) {off : Fin 2 → ℕ}
    {inb : ∀ a, off a + S512x1152.size a ≤ S6144x1152.size a} {inb' : ∀ a, off a + S512x1152.size a ≤ S6144x1152.size a} {sem : DmaSem sig}
    {hsrc : (sD off inb).view.WordExact} {hdst : (dD off inb').view.WordExact}
    {hsem} {k : PUnit → Prog (TpuEff nD τ sig (Elt F) Λ₀ .tc) α}
    (hoff : off = ![512 * i.val, 0]) (hs : sem = cellD i) :
    preD c f i ⊢ iprop((flyD c f i -∗ WP c (k ⟨⟩) Q) -∗ WP c (.op (.enqueueDma (sD off inb) (.here (dD off inb')) (.dma sem) hsrc hdst hsem) k) Q) := by
  subst hoff; subst hs
  iintro ⟨Hs, ⟨%g, Hd⟩, Hv⟩ Hk
  iapply (wp_start c (src := sD _ inb) (dst := dD _ inb') (hsrc := hsrc) (hdst := hdst) (hsem := hsem) fullShare ND f g f (dD_credit _ _) ND_pos (dD_read _ _ f)) $$ [Hs Hd Hv]
  · rw [sD_set, dD_set]
    isplitl [Hs]; · iexact Hs
    isplitl [Hd]; · iexact Hd
    iexact Hv
  rw [sD_set, dD_set]
  iexact Hk

theorem collectD (c : Dev nD) (f : S6144x1152.Idx → Elt F .bf16) {α : Type} {Q : α → sProp 𝕄} (i : Fin 12) {off : Fin 2 → ℕ}
    {inb : ∀ a, off a + S512x1152.size a ≤ S6144x1152.size a} {inb' : ∀ a, off a + S512x1152.size a ≤ S6144x1152.size a} {sem : DmaSem sig}
    {hsrc : (sD off inb).view.WordExact} {hdst : (dD off inb').view.WordExact}
    {k : PUnit → Prog (TpuEff nD τ sig (Elt F) Λ₀ .tc) α} (hs : sem = cellD i) :
    iprop(flyD c f i ∗ (∃ W, owes (c : Thread nD τ) 0 W)) ⊢ iprop((iprop(hereD c f i ∗ (∃ W, owes (c : Thread nD τ) 0 W)) -∗ WP c (k ⟨⟩) Q)
      -∗ WP c (.op (.waitDma2 sem (sD off inb) (dD off inb') hsrc hdst) k) Q) := by
  subst hs
  iintro H Hk
  iapply (wp_collect c (srcw := sD off inb) (dstw := dD off inb') (hsrc := hsrc) (hdst := hdst) (N := ND) (dD_credit _ _)) $$ H
  iintro ⟨⟨Hd, Hs⟩, Hv, HO⟩
  iapply Hk
  isplitl [Hd Hs Hv]
  · isplitl [Hd]; · iexact Hd
    isplitl [Hs]; · iexact Hs
    iexact Hv
  iexact HO

theorem loadD (c : Dev nD) (f : S6144x1152.Idx → Elt F .bf16) {α : Type} {Q : α → sProp 𝕄} (i : Fin 12) {off : Fin 2 → ℕ}
    {inb : ∀ a, off a + S512x1152.size a ≤ S6144x1152.size a}
    {hl : (Memref.whole cc0_scratch0 : Memref sig .tc .vmem S6144x1152 .bf16).view.LoadsAt (Rect.unit (s := S6144x1152) off S512x1152.size inb).toLoadRect}
    {k : (S512x1152.Idx → Elt F .bf16) → Prog (TpuEff nD τ sig (Elt F) Λ₀ .tc) α} (hoff : off = ![512 * i.val, 0]) :
    on c cc0_scratch0 (rD i).set fullShare f ⊢ iprop((on c cc0_scratch0 (rD i).set fullShare f -∗ WP c (k (blk f (rD i))) Q)
      -∗ WP c (.op (.load (Memref.whole cc0_scratch0 : Memref sig .tc .vmem S6144x1152 .bf16) (Rect.unit (s := S6144x1152) off S512x1152.size inb).toLoadRect hl) k) Q) := by
  subst hoff
  have h1 : (((Memref.whole cc0_scratch0 : Memref sig .tc .vmem S6144x1152 .bf16)).access (rD i)).set ⊆ (rD i).set := by rw [View.set_slice_whole]
  have h2 : (((Memref.whole cc0_scratch0 : Memref sig .tc .vmem S6144x1152 .bf16)).access (rD i)).read (Elt F) f = blk f (rD i) := rfl
  exact wp_loadB c (m := (Memref.whole cc0_scratch0 : Memref sig .tc .vmem S6144x1152 .bf16)) (r := rD i) (hl := hl) (k := k) (f := f) (w := blk f (rD i)) (I := (rD i).set) (q := fullShare) h1 h2

/-- The running maxima over the first `k` chunks. -/
def acc3 (f : S6144x1152.Idx → Elt F .bf16) : ℕ → FVec F S16x1152 .bf16
  | 0 => k0_pay11 (F := F)
  | k + 1 => if h : k < 12 then k0_pay12 (acc3 f k) (blk f (rD ⟨k, h⟩)) else acc3 f k

theorem trips3 : k0_t3_loop.trips = 12 := by decide

abbrev body3 (v70 v71 : F .f32) (v74 v75 : IVec S2x128 32) : Fin k0_t3_loop.trips → FVec F S16x1152 .bf16 → Prog (TpuEff nD τ sig (Elt F) Λ₀ .tc) (FVec F S16x1152 .bf16) :=
  k0_t3_body (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v70 v71 v74 v75

def inv3 (c : Dev nD) (f : S6144x1152.Idx → Elt F .bf16) (k : ℕ) (acc : FVec F S16x1152 .bf16) : sProp 𝕄 :=
  iprop(⌜acc = acc3 f k⌝ ∗ (∃ W, owes (c : Thread nD τ) 0 W) ∗ bigSep Finset.univ fun i : Fin 12 => if i.val < k then hereD c f i else flyD c f i)

theorem sem3 : ∀ k : Fin k0_t3_loop.trips, ((cc0_scratch6.slice (Rect.unit (s := S12) (k0_off5 k) S1.size (k0_off5_inb k))).squeeze S_ squeezes_S1_S_).sem
    = cellD (k.cast trips3) := by decide

theorem step3 (c : Dev nD) (v70 v71 : F .f32) (v74 v75 : IVec S2x128 32) (f : S6144x1152.Idx → Elt F .bf16) (k : Fin k0_t3_loop.trips) (acc : FVec F S16x1152 .bf16) :
    inv3 c f k.val acc ⊢ WP c (body3 v70 v71 v74 v75 k acc) (inv3 c f (k.val + 1)) := by
  have hk : k.val < 12 := trips3 ▸ k.isLt
  unfold inv3
  iintro ⟨%hacc, HO, HB⟩
  subst hacc
  ihave HB := (family_swap (⟨k.val, hk⟩ : Fin 12) (fun i : Fin 12 => if i.val < k.val then hereD c f i else flyD c f i)
    (fun i : Fin 12 => if i.val < k.val + 1 then hereD c f i else flyD c f i) (fun j hj => by
      have : j.val ≠ k.val := fun e => hj (Fin.ext e)
      by_cases h : j.val < k.val
      · simp only [if_pos h, if_pos (show j.val < k.val + 1 by omega)]
      · simp only [if_neg h, if_neg (show ¬ j.val < k.val + 1 by omega)])) $$ HB
  rw [if_neg (show ¬ (⟨k.val, hk⟩ : Fin 12).val < k.val from lt_irrefl _), if_pos (show (⟨k.val, hk⟩ : Fin 12).val < k.val + 1 from Nat.lt_succ_self _)]
  icases HB with ⟨Hf, HB⟩
  unfold body3 k0_t3_body
  dsimp only
  rw [sem3 k]
  iapply (collectD c f ⟨k.val, hk⟩ rfl) $$ [Hf HO]
  · isplitl [Hf]; · iexact Hf
    iexact HO
  iintro ⟨⟨Hd, Hs, Hv⟩, HO⟩
  simp only [ret_bind']
  iapply (loadD c f ⟨k.val, hk⟩ (k0_off7_eq k)) $$ Hd
  iintro Hd
  simp only [ret_bind']
  iapply (wpPure c _ _)
  isplitr
  · ipureintro
    show k0_pay12 (acc3 f k.val) (blk f (rD ⟨k.val, hk⟩)) = acc3 f (k.val + 1)
    rw [acc3, dif_pos hk]
  isplitl [HO]; · iexact HO
  iapply HB
  isplitl [Hd]; · iexact Hd
  isplitl [Hs]; · iexact Hs
  iexact Hv

/-- The loop over the chunks: every chunk landed, the maxima folded. -/
theorem loop3 (c : Dev nD) (v70 v71 : F .f32) (v74 v75 : IVec S2x128 32) (f : S6144x1152.Idx → Elt F .bf16) {α : Type} {Q : α → sProp 𝕄}
    {kk : FVec F S16x1152 .bf16 → Prog (TpuEff nD τ sig (Elt F) Λ₀ .tc) α} :
    iprop((∃ W, owes (c : Thread nD τ) 0 W) ∗ bigSep Finset.univ (flyD c f))
      ⊢ iprop((iprop((∃ W, owes (c : Thread nD τ) 0 W) ∗ bigSep Finset.univ (hereD c f)) -∗ WP c (kk (acc3 f 12)) Q)
          -∗ WP c (Scf.Loop.for k0_t3_loop k0_t3_ok (k0_pay11 (F := F)) (body3 v70 v71 v74 v75) >>= kk) Q) := by
  iintro ⟨HO, HB⟩ Hk
  iapply (Scf.wp_for_bind frame (wpE (defs₀ (F := F)) Variants.none (c : Thread nD τ) none) Set.univ k0_t3_loop.lb k0_t3_loop.ub k0_t3_loop.st k0_t3_ok
    (k0_pay11 (F := F)) (body3 v70 v71 v74 v75) (inv3 c f) (step3 c v70 v71 v74 v75 f)) $$ [HO HB]
  · unfold inv3
    isplitr
    · ipureintro; rfl
    isplitl [HO]; · iexact HO
    simp only [Nat.not_lt_zero, if_false]
    iexact HB
  iintro %acc HI
  rw [show Scf.trips k0_t3_loop.lb k0_t3_loop.ub k0_t3_loop.st = 12 from trips3]
  unfold inv3
  icases HI with ⟨%hacc, HO, HB⟩
  subst hacc
  rw [show (fun i : Fin 12 => if i.val < 12 then hereD c f i else flyD c f i) = hereD c f from funext fun i => if_pos i.isLt]
  iapply Hk
  isplitl [HO]; · iexact HO
  iexact HB

end Cert.Kernel.Hand
-- ==== Proof.KernelStart.lean ====
/-
  Hand-written. The stretches of the body that start the loads, and the first loop's values.
-/
module

public import proofs.«01_k».proof.Proof.KernelLoad

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The four slabs and the first two chunks are started. -/
theorem run2 (c : Dev nD) (fW : S2176x1152.Idx → Elt F .f32) (fD : S6144x1152.Idx → Elt F .bf16) {Q : PUnit → sProp 𝕄} :
    iprop(preW c fW 0 ∗ preW c fW 1 ∗ preW c fW 2 ∗ preW c fW 3 ∗ preD c fD 0 ∗ preD c fD 1)
      ⊢ iprop((iprop(flyW c fW 0 ∗ flyW c fW 1 ∗ flyW c fW 2 ∗ flyW c fW 3 ∗ flyD c fD 0 ∗ flyD c fD 1) -∗ Q ⟨⟩)
          -∗ WP c (k0_part2_skel (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HW0, HW1, HW2, HW3, HD0, HD1⟩ Hk
  unfold k0_part2_skel
  dsimp only
  iapply (startW c fW 0 rfl rfl) $$ HW0
  iintro HW0
  simp only [ret_bind']
  iapply (startW c fW 1 rfl rfl) $$ HW1
  iintro HW1
  simp only [ret_bind']
  iapply (startW c fW 2 rfl rfl) $$ HW2
  iintro HW2
  simp only [ret_bind']
  iapply (startW c fW 3 rfl rfl) $$ HW3
  iintro HW3
  simp only [ret_bind']
  iapply (startD c fD 0 rfl rfl) $$ HD0
  iintro HD0
  simp only [ret_bind']
  iapply (startD c fD 1 rfl rfl) $$ HD1
  iintro HD1
  simp only [ret_bind']
  iapply (wpPure c _ _)
  iapply Hk
  isplitl [HW0]; · iexact HW0
  isplitl [HW1]; · iexact HW1
  isplitl [HW2]; · iexact HW2
  isplitl [HW3]; · iexact HW3
  isplitl [HD0]; · iexact HD0
  iexact HD1

/-- Six more chunks are started. -/
theorem run3 (c : Dev nD) (fW : S2176x1152.Idx → Elt F .f32) (fD : S6144x1152.Idx → Elt F .bf16) {Q : PUnit → sProp 𝕄} :
    iprop(preD c fD 2 ∗ preD c fD 3 ∗ preD c fD 4 ∗ preD c fD 5 ∗ preD c fD 6 ∗ preD c fD 7)
      ⊢ iprop((iprop(flyD c fD 2 ∗ flyD c fD 3 ∗ flyD c fD 4 ∗ flyD c fD 5 ∗ flyD c fD 6 ∗ flyD c fD 7) -∗ Q ⟨⟩)
          -∗ WP c (k0_part3_skel (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HD2, HD3, HD4, HD5, HD6, HD7⟩ Hk
  unfold k0_part3_skel
  dsimp only
  iapply (startD c fD 2 rfl rfl) $$ HD2
  iintro HD2
  simp only [ret_bind']
  iapply (startD c fD 3 rfl rfl) $$ HD3
  iintro HD3
  simp only [ret_bind']
  iapply (startD c fD 4 rfl rfl) $$ HD4
  iintro HD4
  simp only [ret_bind']
  iapply (startD c fD 5 rfl rfl) $$ HD5
  iintro HD5
  simp only [ret_bind']
  iapply (startD c fD 6 rfl rfl) $$ HD6
  iintro HD6
  simp only [ret_bind']
  iapply (startD c fD 7 rfl rfl) $$ HD7
  iintro HD7
  simp only [ret_bind']
  iapply (wpPure c _ _)
  iapply Hk
  isplitl [HD2]; · iexact HD2
  isplitl [HD3]; · iexact HD3
  isplitl [HD4]; · iexact HD4
  isplitl [HD5]; · iexact HD5
  isplitl [HD6]; · iexact HD6
  iexact HD7

/-- The last four chunks are started; the slabs are collected and their maxima folded. -/
theorem run4 (c : Dev nD) (fW : S2176x1152.Idx → Elt F .f32) (fD : S6144x1152.Idx → Elt F .bf16)
    {Q : (Σ' (v70 : F .f32) (v71 : F .f32) (v74 : IVec S2x128 32), IVec S2x128 32) → sProp 𝕄} :
    iprop(preD c fD 8 ∗ preD c fD 9 ∗ preD c fD 10 ∗ preD c fD 11 ∗ (∃ W, owes (c : Thread nD τ) 0 W) ∗ bigSep Finset.univ (flyW c fW))
      ⊢ iprop((iprop(flyD c fD 8 ∗ flyD c fD 9 ∗ flyD c fD 10 ∗ flyD c fD 11 ∗ (∃ W, owes (c : Thread nD τ) 0 W) ∗ bigSep Finset.univ (hereW c fW))
            -∗ Q ⟨k0_pay6 (acc1 fW 4), k0_pay7 (acc1 fW 4), k0_pay8, iota .tc S2x128 32 [1] iota_S2x128_d1_w32⟩)
          -∗ WP c (k0_part4_skel (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HD8, HD9, HD10, HD11, HO, HW⟩ Hk
  unfold k0_part4_skel
  dsimp only
  iapply (startD c fD 8 rfl rfl) $$ HD8
  iintro HD8
  simp only [ret_bind']
  iapply (startD c fD 9 rfl rfl) $$ HD9
  iintro HD9
  simp only [ret_bind']
  iapply (startD c fD 10 rfl rfl) $$ HD10
  iintro HD10
  simp only [ret_bind']
  iapply (startD c fD 11 rfl rfl) $$ HD11
  iintro HD11
  simp only [ret_bind']
  iapply (loop1 c fW) $$ [HO HW]
  · isplitl [HO]; · iexact HO
    iexact HW
  iintro ⟨HO, HW⟩
  iapply (wpPure c _ _)
  iapply Hk
  isplitl [HD8]; · iexact HD8
  isplitl [HD9]; · iexact HD9
  isplitl [HD10]; · iexact HD10
  isplitl [HD11]; · iexact HD11
  isplitl [HO]; · iexact HO
  iexact HW

end Cert.Kernel.Hand
-- ==== Proof.KernelQuant.lean ====
/-
  Hand-written. The stretch that codes the weights: their scale stored, each slab coded, the codes sent out, and the rows'
  chunks collected.
-/
module

public import proofs.«01_k».proof.Proof.KernelStart
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Buffers rejoined after the loads -/

theorem hereW_split (c : Dev nD) (f : S2176x1152.Idx → Elt F .f32) :
    bigSep Finset.univ (hereW c f) ⊢ iprop(on c cc0_scratch1 Finset.univ fullShare f ∗ on c main_arg1 Finset.univ fullShare f
      ∗ bigSep Finset.univ fun i => semVal ((c : Thread nD τ), SemLoc.dma (cellW i)) 0) := by
  rw [bigSep_sep', bigSep_sep', ← on_blocks c cc0_scratch1 (fun i => (rW i).set) fullShare f rW_disj rW_cover,
    ← on_blocks c main_arg1 (fun i => (rW i).set) fullShare f rW_disj rW_cover]

theorem hereD_split (c : Dev nD) (f : S6144x1152.Idx → Elt F .bf16) :
    bigSep Finset.univ (hereD c f) ⊢ iprop(on c cc0_scratch0 Finset.univ fullShare f ∗ on c main_v0 Finset.univ fullShare f
      ∗ bigSep Finset.univ fun i => semVal ((c : Thread nD τ), SemLoc.dma (cellD i)) 0) := by
  rw [bigSep_sep', bigSep_sep', ← on_blocks c cc0_scratch0 (fun i => (rD i).set) fullShare f rD_disj rD_cover,
    ← on_blocks c main_v0 (fun i => (rD i).set) fullShare f rD_disj rD_cover]

/-! ## A scalar of the small memory stored -/

/-- The load before a scalar's store reads whatever is there. -/
theorem wp_readScalar (c : Dev nD) {s : Shape} {e : EltTy} {α : Type} {Q : α → sProp 𝕄} {m : Memref sig .tc .smem s e} {r : Rect s}
    {h1 : r.shape.numel = 1} {hp : e.packing = 1} {k : Elt F e → Prog (TpuEff nD τ sig (Elt F) Λ₀ .tc) α} {f : m.view.ty.Contents (Elt F)} :
    (m.view.loc (c : Thread nD τ) ↦[Finset.univ]{fullShare} f : sProp 𝕄)
      ⊢ iprop((∀ a, (m.view.loc (c : Thread nD τ) ↦[Finset.univ]{fullShare} f) -∗ WP c (k a) Q) -∗ WP c (smemLoad m r h1 hp >>= k) Q) := by
  unfold smemLoad
  rw [smemLoadElt_bind]
  iintro H Hk
  iapply (wp_smemLoadElt (defs := defs₀ (F := F)) (Γ := .empty) Variants.none (c : Thread nD τ) none Set.univ (m := m) (r := r) (k := fun a => k a) (S := Finset.univ) (f := f) (Finset.subset_univ _)) $$ H
  iintro H
  iapply Hk
  iexact H

/-! ## The weights' codes -/

/-- One weight's code: scaled by the inverse of the weights' scale, clipped, rounded. -/
def q10 (v70 v71 : F .f32) (v74 v75 : IVec S2x128 32) (w : F .f32) : F .fp8e4m3 :=
  k0_pay10 v70 v71 v74 v75 (fun _ => w) (fun a => ⟨0, by revert a; decide⟩)

theorem k0_pay10_apply (v70 v71 : F .f32) (v74 v75 : IVec S2x128 32) (w : S544x1152.Idx → Elt F .f32) :
    k0_pay10 v70 v71 v74 v75 w = fun x => q10 v70 v71 v74 v75 (w x) := by
  funext x
  unfold q10 k0_pay10
  dsimp only
  have e : ∀ v : S544x1152.Idx → F .fp8e4m3, shapeCast S544x1152 v shapeCasts_S544x1152_S544x1152 = v := fun v => shapeCast_self v _
  rw [e, e]
  rfl

/-- The weights' codes. -/
def WQ (v70 v71 : F .f32) (v74 v75 : IVec S2x128 32) (f : S2176x1152.Idx → Elt F .f32) : S2176x1152.Idx → Elt F .fp8e4m3 :=
  fun x => q10 v70 v71 v74 v75 (f x)

theorem trips2 : k0_t2_loop.trips = 4 := by decide

abbrev body2 (v70 v71 : F .f32) (v74 v75 : IVec S2x128 32) : Fin k0_t2_loop.trips → Unit → Prog (TpuEff nD τ sig (Elt F) Λ₀ .tc) Unit :=
  k0_t2_body (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v70 v71 v74 v75

/-- Slab `i` of the codes' buffer, written or not. -/
abbrev codeW (c : Dev nD) (G : S2176x1152.Idx → Elt F .fp8e4m3) (k : ℕ) (i : Fin 4) : sProp 𝕄 :=
  if i.val < k then on c cc0_scratch2 (rW i).set fullShare G else iprop(∃ g, on c cc0_scratch2 (rW i).set fullShare g)

def inv2 (c : Dev nD) (v70 v71 : F .f32) (v74 v75 : IVec S2x128 32) (f : S2176x1152.Idx → Elt F .f32) (k : ℕ) (_ : Unit) : sProp 𝕄 :=
  iprop(on c cc0_scratch1 Finset.univ fullShare f ∗ bigSep Finset.univ (codeW c (WQ v70 v71 v74 v75 f) k))

theorem loadW_all (c : Dev nD) (f : S2176x1152.Idx → Elt F .f32) {α : Type} {Q : α → sProp 𝕄} (i : Fin 4) {off : Fin 2 → ℕ}
    {inb : ∀ a, off a + S544x1152.size a ≤ S2176x1152.size a}
    {hl : (Memref.whole cc0_scratch1 : Memref sig .tc .vmem S2176x1152 .f32).view.LoadsAt (Rect.unit (s := S2176x1152) off S544x1152.size inb).toLoadRect}
    {k : (S544x1152.Idx → Elt F .f32) → Prog (TpuEff nD τ sig (Elt F) Λ₀ .tc) α} (hoff : off = ![544 * i.val, 0]) :
    on c cc0_scratch1 Finset.univ fullShare f ⊢ iprop((on c cc0_scratch1 Finset.univ fullShare f -∗ WP c (k (blk f (rW i))) Q)
      -∗ WP c (.op (.load (Memref.whole cc0_scratch1 : Memref sig .tc .vmem S2176x1152 .f32) (Rect.unit (s := S2176x1152) off S544x1152.size inb).toLoadRect hl) k) Q) := by
  subst hoff
  have h2 : (((Memref.whole cc0_scratch1 : Memref sig .tc .vmem S2176x1152 .f32)).access (rW i)).read (Elt F) f = blk f (rW i) := rfl
  exact wp_loadB c (m := (Memref.whole cc0_scratch1 : Memref sig .tc .vmem S2176x1152 .f32)) (r := rW i) (hl := hl) (k := k) (f := f) (w := blk f (rW i)) (I := Finset.univ) (q := fullShare)
    (Finset.subset_univ _) h2

theorem loadQ (c : Dev nD) (f : S2176x1152.Idx → Elt F .fp8e4m3) {α : Type} {Q : α → sProp 𝕄} (i : Fin 4) {off : Fin 2 → ℕ}
    {inb : ∀ a, off a + S544x1152.size a ≤ S2176x1152.size a}
    {hl : (Memref.whole cc0_scratch2 : Memref sig .tc .vmem S2176x1152 .fp8e4m3).view.LoadsAt (Rect.unit (s := S2176x1152) off S544x1152.size inb).toLoadRect}
    {k : (S544x1152.Idx → Elt F .fp8e4m3) → Prog (TpuEff nD τ sig (Elt F) Λ₀ .tc) α} (hoff : off = ![544 * i.val, 0]) :
    on c cc0_scratch2 (rW i).set fullShare f ⊢ iprop((on c cc0_scratch2 (rW i).set fullShare f -∗ WP c (k (blk f (rW i))) Q)
      -∗ WP c (.op (.load (Memref.whole cc0_scratch2 : Memref sig .tc .vmem S2176x1152 .fp8e4m3) (Rect.unit (s := S2176x1152) off S544x1152.size inb).toLoadRect hl) k) Q) := by
  subst hoff
  have h1 : (((Memref.whole cc0_scratch2 : Memref sig .tc .vmem S2176x1152 .fp8e4m3)).access (rW i)).set ⊆ (rW i).set := by rw [View.set_slice_whole]
  have h2 : (((Memref.whole cc0_scratch2 : Memref sig .tc .vmem S2176x1152 .fp8e4m3)).access (rW i)).read (Elt F) f = blk f (rW i) := rfl
  exact wp_loadB c (m := (Memref.whole cc0_scratch2 : Memref sig .tc .vmem S2176x1152 .fp8e4m3)) (r := rW i) (hl := hl) (k := k) (f := f) (w := blk f (rW i)) (I := (rW i).set) (q := fullShare) h1 h2

theorem storeQ (c : Dev nD) (f G : S2176x1152.Idx → Elt F .fp8e4m3) {α : Type} {Q : α → sProp 𝕄} (i : Fin 4) {off : Fin 2 → ℕ}
    {inb : ∀ a, off a + S544x1152.size a ≤ S2176x1152.size a} {w : S544x1152.Idx → Elt F .fp8e4m3} {hx} {hm}
    {k : PUnit → Prog (TpuEff nD τ sig (Elt F) Λ₀ .tc) α} (hoff : off = ![544 * i.val, 0]) (hw : blk G (rW i) = w) :
    on c cc0_scratch2 (rW i).set fullShare f ⊢ iprop((on c cc0_scratch2 (rW i).set fullShare G -∗ WP c (k ⟨⟩) Q)
      -∗ WP c (.op (.store (Memref.whole cc0_scratch2 : Memref sig .tc .vmem S2176x1152 .fp8e4m3) (Rect.unit (s := S2176x1152) off S544x1152.size inb) w Finset.univ hx hm) k) Q) := by
  subst hoff
  have h1 : (((Memref.whole cc0_scratch2 : Memref sig .tc .vmem S2176x1152 .fp8e4m3)).access (rW i)).set = (rW i).set := View.set_slice_whole _ _
  have h2 : (((Memref.whole cc0_scratch2 : Memref sig .tc .vmem S2176x1152 .fp8e4m3)).access (rW i)).read (Elt F) G = w := hw
  exact wp_storeB c (m := (Memref.whole cc0_scratch2 : Memref sig .tc .vmem S2176x1152 .fp8e4m3)) (r := rW i) (w := w) (hx := hx) (hm := hm) (k := k) (I := (rW i).set) (f := f) G h1 h2

theorem step2 (c : Dev nD) (v70 v71 : F .f32) (v74 v75 : IVec S2x128 32) (f : S2176x1152.Idx → Elt F .f32) (k : Fin k0_t2_loop.trips) (u : Unit) :
    inv2 c v70 v71 v74 v75 f k.val u ⊢ WP c (body2 v70 v71 v74 v75 k u) (inv2 c v70 v71 v74 v75 f (k.val + 1)) := by
  have hk : k.val < 4 := trips2 ▸ k.isLt
  unfold inv2
  iintro ⟨HW, HB⟩
  ihave HB := (family_swap (⟨k.val, hk⟩ : Fin 4) (codeW c (WQ v70 v71 v74 v75 f) k.val) (codeW c (WQ v70 v71 v74 v75 f) (k.val + 1)) (fun j hj => by
      have : j.val ≠ k.val := fun e => hj (Fin.ext e)
      unfold codeW
      by_cases h : j.val < k.val
      · simp only [if_pos h, if_pos (show j.val < k.val + 1 by omega)]
      · simp only [if_neg h, if_neg (show ¬ j.val < k.val + 1 by omega)])) $$ HB
  unfold codeW
  rw [if_neg (show ¬ (⟨k.val, hk⟩ : Fin 4).val < k.val from lt_irrefl _), if_pos (show (⟨k.val, hk⟩ : Fin 4).val < k.val + 1 from Nat.lt_succ_self _)]
  icases HB with ⟨⟨%g, Hq⟩, HB⟩
  unfold body2 k0_t2_body
  dsimp only
  iapply (loadW_all c f ⟨k.val, hk⟩ (k0_off4_eq k)) $$ HW
  iintro HW
  simp only [ret_bind']
  iapply (loadQ c g ⟨k.val, hk⟩ (k0_off4_eq k)) $$ Hq
  iintro Hq
  simp only [ret_bind']
  iapply (storeQ c g (WQ v70 v71 v74 v75 f) ⟨k.val, hk⟩ (k0_off4_eq k) (k0_pay10_apply v70 v71 v74 v75 (blk f (rW ⟨k.val, hk⟩))).symm) $$ Hq
  iintro Hq
  simp only [ret_bind']
  iapply (wpPure c _ _)
  isplitl [HW]; · iexact HW
  iapply HB
  iexact Hq

theorem codeW_zero (c : Dev nD) (G g : S2176x1152.Idx → Elt F .fp8e4m3) :
    on c cc0_scratch2 Finset.univ fullShare g ⊢ bigSep Finset.univ (codeW c G 0) := by
  rw [on_blocks c cc0_scratch2 (fun i => (rW i).set) fullShare g rW_disj rW_cover]
  refine bigSep_mono fun i _ => ?_
  have e : codeW c G 0 i = iprop(∃ g, on c cc0_scratch2 (rW i).set fullShare g) := if_neg (Nat.not_lt_zero _)
  rw [e]
  exact exists_intro (Φ := fun g => on c cc0_scratch2 (rW i).set fullShare g) g

theorem codeW_four (c : Dev nD) (G : S2176x1152.Idx → Elt F .fp8e4m3) :
    bigSep Finset.univ (codeW c G 4) ⊢ on c cc0_scratch2 Finset.univ fullShare G := by
  rw [on_blocks c cc0_scratch2 (fun i => (rW i).set) fullShare G rW_disj rW_cover,
    show codeW c G 4 = (fun i => on c cc0_scratch2 (rW i).set fullShare G) from funext fun i => if_pos i.isLt]

/-- The loop over the slabs: every weight coded. -/
theorem loop2 (c : Dev nD) (v70 v71 : F .f32) (v74 v75 : IVec S2x128 32) (f : S2176x1152.Idx → Elt F .f32) {α : Type} {Q : α → sProp 𝕄}
    {kk : Unit → Prog (TpuEff nD τ sig (Elt F) Λ₀ .tc) α} :
    iprop(on c cc0_scratch1 Finset.univ fullShare f ∗ (∃ g, on c cc0_scratch2 Finset.univ fullShare g))
      ⊢ iprop((iprop(on c cc0_scratch1 Finset.univ fullShare f ∗ on c cc0_scratch2 Finset.univ fullShare (WQ v70 v71 v74 v75 f)) -∗ WP c (kk ⟨⟩) Q)
          -∗ WP c (Scf.Loop.for k0_t2_loop k0_t2_ok ⟨⟩ (body2 v70 v71 v74 v75) >>= kk) Q) := by
  iintro ⟨HW, %g, HB⟩ Hk
  ihave HB := (codeW_zero c (WQ v70 v71 v74 v75 f) g) $$ HB
  iapply (Scf.wp_for_bind frame (wpE (defs₀ (F := F)) Variants.none (c : Thread nD τ) none) Set.univ k0_t2_loop.lb k0_t2_loop.ub k0_t2_loop.st k0_t2_ok
    ⟨⟩ (body2 v70 v71 v74 v75) (inv2 c v70 v71 v74 v75 f) (step2 c v70 v71 v74 v75 f)) $$ [HW HB]
  · unfold inv2
    isplitl [HW]; · iexact HW
    iexact HB
  iintro %acc HI
  rw [show Scf.trips k0_t2_loop.lb k0_t2_loop.ub k0_t2_loop.st = 4 from trips2]
  unfold inv2
  icases HI with ⟨HW, HB⟩
  ihave HB := (codeW_four c (WQ v70 v71 v74 v75 f)) $$ HB
  iapply Hk
  isplitl [HW]; · iexact HW
  iexact HB

/-! ## Their transfer out -/

/-- The codes' whole transfer's credit. -/
def NQ : ℕ := main_v1_3.dmaCredit S2176x1152 .fp8e4m3
theorem NQ_pos : 0 < NQ := sig.dmaCredit_pos _ _ _ _ _ (by decide)

abbrev sQ : Memref sig .tc .vmem S2176x1152 .fp8e4m3 := Memref.whole cc0_scratch2
abbrev dQ : Memref sig .tc .hbm S2176x1152 .fp8e4m3 := Memref.whole main_v1_3
theorem sQ_set : sQ.view.set = Finset.univ := View.set_whole _
theorem dQ_set : dQ.view.set = Finset.univ := View.set_whole _
theorem dQ_credit : dQ.view.dmaCredit = NQ := rfl
theorem dQ_read (f : S2176x1152.Idx → Elt F .fp8e4m3) : dQ.view.read (Elt F) f = sQ.view.read (Elt F) f := rfl

/-- The codes on their way out, half of the scratch buffer lent. -/
abbrev flyQ (c : Dev nD) (G : S2176x1152.Idx → Elt F .fp8e4m3) : sProp 𝕄 :=
  Transfers.Flight EC (c : Thread nD τ) (SemLoc.dma cc0_scratch7.sem) () NQ
    iprop(on c main_v1_3 Finset.univ fullShare G ∗ on c cc0_scratch2 Finset.univ fullShare.left G)

theorem startQ (c : Dev nD) (G g : S2176x1152.Idx → Elt F .fp8e4m3) {α : Type} {Q : α → sProp 𝕄}
    {hsrc : sQ.view.WordExact} {hdst : dQ.view.WordExact} {hsem} {k : PUnit → Prog (TpuEff nD τ sig (Elt F) Λ₀ .tc) α} :
    iprop(on c cc0_scratch2 Finset.univ fullShare.left G ∗ on c main_v1_3 Finset.univ fullShare g ∗ semVal ((c : Thread nD τ), SemLoc.dma cc0_scratch7.sem) 0)
      ⊢ iprop((flyQ c G -∗ WP c (k ⟨⟩) Q) -∗ WP c (.op (.enqueueDma sQ (.here dQ) (.dma cc0_scratch7.sem) hsrc hdst hsem) k) Q) := by
  iintro ⟨Hs, Hd, Hv⟩ Hk
  iapply (wp_start c (src := sQ) (dst := dQ) (hsrc := hsrc) (hdst := hdst) (hsem := hsem) fullShare.left NQ G g G dQ_credit NQ_pos (dQ_read G)) $$ [Hs Hd Hv]
  · rw [sQ_set, dQ_set]
    isplitl [Hs]; · iexact Hs
    isplitl [Hd]; · iexact Hd
    iexact Hv
  rw [sQ_set, dQ_set]
  iexact Hk

theorem collectQ (c : Dev nD) (G : S2176x1152.Idx → Elt F .fp8e4m3) {α : Type} {Q : α → sProp 𝕄}
    {hsrc : sQ.view.WordExact} {hdst : dQ.view.WordExact} {k : PUnit → Prog (TpuEff nD τ sig (Elt F) Λ₀ .tc) α} :
    iprop(flyQ c G ∗ (∃ W, owes (c : Thread nD τ) 0 W))
      ⊢ iprop((iprop(iprop(on c main_v1_3 Finset.univ fullShare G ∗ on c cc0_scratch2 Finset.univ fullShare.left G)
            ∗ semVal ((c : Thread nD τ), SemLoc.dma cc0_scratch7.sem) 0 ∗ (∃ W, owes (c : Thread nD τ) 0 W)) -∗ WP c (k ⟨⟩) Q)
        -∗ WP c (.op (.waitDma2 cc0_scratch7.sem sQ dQ hsrc hdst) k) Q) := by
  iintro H Hk
  iapply (wp_collect c (srcw := sQ) (dstw := dQ) (hsrc := hsrc) (hdst := hdst) (N := NQ) dQ_credit) $$ H
  iexact Hk

/-! ## The stretch -/

abbrev mScale : Memref sig .tc .smem S1x1 .f32 := Memref.whole cc0_stg1_0
theorem mScale_set : (mScale.access (Rect.unit (s := S1x1) ![0, 0] S1x1.size inb_S1x1_S1x1_0_0)).set = Finset.univ := by
  rw [View.set_slice_whole]; decide
theorem mScale_read (a : F .f32) : (mScale.access (Rect.unit (s := S1x1) ![0, 0] S1x1.size inb_S1x1_S1x1_0_0)).read (Elt F) (fun _ => a) = fun _ => a := rfl
theorem storeScale (c : Dev nD) (a : F .f32) {g} {α : Type} {Q : α → sProp 𝕄} {hx} {hm} {k : PUnit → Prog (TpuEff nD τ sig (Elt F) Λ₀ .tc) α} :
    on c cc0_stg1_0 Finset.univ fullShare g ⊢ iprop((on c cc0_stg1_0 Finset.univ fullShare (fun _ => a) -∗ WP c (k ⟨⟩) Q)
      -∗ WP c (.op (.store mScale (Rect.unit (s := S1x1) ![0, 0] S1x1.size inb_S1x1_S1x1_0_0) (fun _ => a) Finset.univ hx hm) k) Q) :=
  wp_storeB c (m := mScale) (r := Rect.unit (s := S1x1) ![0, 0] S1x1.size inb_S1x1_S1x1_0_0) (w := fun _ => a) (hx := hx) (hm := hm) (k := k) (I := Finset.univ) (f := g) (fun _ => a) mScale_set (mScale_read a)

/-- The weights' scale stored, the weights coded and sent out, the rows collected and their maxima folded. -/
theorem run5 (c : Dev nD) (v70 v71 : F .f32) (v74 v75 : IVec S2x128 32) (fW : S2176x1152.Idx → Elt F .f32) (fD : S6144x1152.Idx → Elt F .bf16)
    {Q : (Σ' (v97 : F .f32), FVec F S1 .f32) → sProp 𝕄} :
    iprop((∃ g, on c cc0_stg1_0 Finset.univ fullShare g) ∗ on c cc0_scratch1 Finset.univ fullShare fW ∗ (∃ g, on c cc0_scratch2 Finset.univ fullShare g)
        ∗ (∃ g, on c main_v1_3 Finset.univ fullShare g) ∗ semVal ((c : Thread nD τ), SemLoc.dma cc0_scratch7.sem) 0
        ∗ (∃ W, owes (c : Thread nD τ) 0 W) ∗ bigSep Finset.univ (flyD c fD))
      ⊢ iprop((iprop(on c cc0_stg1_0 Finset.univ fullShare (fun _ => k0_pay9 v70 v71 v74 v75) ∗ on c cc0_scratch1 Finset.univ fullShare fW
            ∗ on c cc0_scratch2 Finset.univ fullShare.right (WQ v70 v71 v74 v75 fW) ∗ flyQ c (WQ v70 v71 v74 v75 fW)
            ∗ (∃ W, owes (c : Thread nD τ) 0 W) ∗ bigSep Finset.univ (hereD c fD)) -∗ Q ⟨k0_pay9 v70 v71 v74 v75, k0_pay13 (acc3 fD 12)⟩)
        -∗ WP c (k0_part5_skel (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v70 v71 v74 v75) Q) := by
  iintro ⟨⟨%g6, H6⟩, HW, HQ, ⟨%g5, H5⟩, Hv, HO, HD⟩ Hk
  unfold k0_part5_skel
  dsimp only
  iapply (wp_readScalar c (m := mScale) (f := g6)) $$ H6
  iintro %a H6
  iapply (storeScale c (k0_pay9 v70 v71 v74 v75)) $$ H6
  iintro H6
  simp only [ret_bind']
  iapply (loop2 c v70 v71 v74 v75 fW) $$ [HW HQ]
  · isplitl [HW]; · iexact HW
    iexact HQ
  iintro ⟨HW, HQ⟩
  ihave HQ := (pointsTo_share (PosShare.mem_left_op_right fullShare)).1 $$ HQ
  icases HQ with ⟨HQl, HQr⟩
  iapply (startQ c (WQ v70 v71 v74 v75 fW) g5) $$ [HQl H5 Hv]
  · isplitl [HQl]; · iexact HQl
    isplitl [H5]; · iexact H5
    iexact Hv
  iintro HF
  simp only [ret_bind']
  iapply (loop3 c v70 v71 v74 v75 fD) $$ [HO HD]
  · isplitl [HO]; · iexact HO
    iexact HD
  iintro ⟨HO, HD⟩
  iapply (wpPure c _ _)
  iapply Hk
  isplitl [H6]; · iexact H6
  isplitl [HW]; · iexact HW
  isplitl [HQr]; · iexact HQr
  isplitl [HF]; · iexact HF
  isplitl [HO]; · iexact HO
  iexact HD

end Cert.Kernel.Hand
-- ==== Proof.KernelOut.lean ====
/-
  Hand-written. What the kernel writes: the gradient's codes, chunk by chunk on one cell, and the result, block by block
  through a ring of four slots; the rules for one trip's loads, stores and transfers.
-/
module

public import proofs.«01_k».proof.Proof.KernelQuant
public import Idealize.ShloMosaic.Lib.ValueIdxCore

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values -/

/-- One gradient entry's code: scaled by the inverse of the gradient's scale, clipped, rounded. -/
def q2 (v143 : F .bf16) (d : F .bf16) : F .fp8e5m2 := k0_pay2 v143 (fun _ => d) (fun a => ⟨0, by revert a; decide⟩)

theorem k0_pay2_apply (v143 : F .bf16) (w : S512x1152.Idx → Elt F .bf16) : k0_pay2 v143 w = fun x => q2 v143 (w x) := by
  funext x
  unfold q2 k0_pay2
  dsimp only
  have e : ∀ v : S512x1152.Idx → F .fp8e5m2, shapeCast S512x1152 v shapeCasts_S512x1152_S512x1152 = v := fun v => shapeCast_self v _
  rw [e, e]
  rfl

/-- The gradient's codes. -/
def YQ (v143 : F .bf16) (f : S6144x1152.Idx → Elt F .bf16) : S6144x1152.Idx → Elt F .fp8e5m2 := fun x => q2 v143 (f x)

/-- One block of the result: the block's product with the weights' codes, scaled, rounded, regrouped. -/
def oblk (v142 : F .f32) (v143 : F .bf16) (d : S512x1152.Idx → Elt F .bf16) (wq : S2176x1152.Idx → Elt F .fp8e4m3) : S64x8x2176.Idx → Elt F .bf16 :=
  truncf .bf16 (shapeCast S64x8x2176 (mulf (matmul dot_S512x1152_S2176x1152_S512x2176_1_1_0_0_n_n none (k0_pay1 v143 d) wq (constant S512x2176 .f32 0x00000000#32))
    (broadcast S512x2176 v142)) shapeCasts_S512x2176_S64x8x2176) bitsLt_bf16_f32

theorem k0_pay3_eq (v142 : F .f32) (v143 : F .bf16) (d : S512x1152.Idx → Elt F .bf16) (wq : S2176x1152.Idx → Elt F .fp8e4m3) :
    k0_pay3 v142 v143 d wq = shapeCast S1x64x8x2176 (oblk v142 v143 d wq) shapeCasts_S64x8x2176_S1x64x8x2176 := rfl

/-- The result, by blocks of 64 rows. -/
def DX (v142 : F .f32) (v143 : F .bf16) (f : S6144x1152.Idx → Elt F .bf16) (wq : S2176x1152.Idx → Elt F .fp8e4m3) : S768x8x2176.Idx → Elt F .bf16 :=
  fun x => oblk v142 v143 (blk f (rD ⟨(x 0 : ℕ) / 64, by have h : (x 0 : ℕ) < 768 := (x 0).isLt; omega⟩)) wq
    (ValueIdx.ix3 (⟨(x 0 : ℕ) % 64, Nat.mod_lt _ (by decide)⟩ : Fin 64) (x 1 : Fin 8) (x 2 : Fin 2176))

/-- A slot's contents, spread over the ring. -/
def SL (w : S1x64x8x2176.Idx → Elt F .bf16) : S4x64x8x2176.Idx → Elt F .bf16 :=
  fun x => w (ValueIdx.ix4 (⟨0, Nat.one_pos⟩ : Fin 1) (x 1 : Fin 64) (x 2 : Fin 8) (x 3 : Fin 2176))

theorem blk_SL (w : S1x64x8x2176.Idx → Elt F .bf16) (j : Fin 4) : blk (SL w) (rS j) = w := by
  funext x
  refine congrArg w (funext fun a => Fin.ext ?_)
  match a with
  | ⟨0, _⟩ => have h : (x 0 : ℕ) < 1 := (x 0).isLt; show 0 = (x 0 : ℕ); omega
  | ⟨1, _⟩ => show 0 + 1 * (x 1 : ℕ) = (x 1 : ℕ); omega
  | ⟨2, _⟩ => show 0 + 1 * (x 2 : ℕ) = (x 2 : ℕ); omega
  | ⟨3, _⟩ => show 0 + 1 * (x 3 : ℕ) = (x 3 : ℕ); omega

theorem blk_DX (v142 : F .f32) (v143 : F .bf16) (f : S6144x1152.Idx → Elt F .bf16) (wq : S2176x1152.Idx → Elt F .fp8e4m3) (i : Fin 12) :
    blk (DX v142 v143 f wq) (rO i) = oblk v142 v143 (blk f (rD i)) wq := by
  funext x
  have h0 : (x 0 : ℕ) < 64 := (x 0).isLt
  have e0 : (((rO i).emb x) 0 : ℕ) = 64 * i.val + (x 0 : ℕ) := by show 64 * i.val + 1 * (x 0 : ℕ) = _; omega
  have e : (⟨(((rO i).emb x) 0 : ℕ) / 64, by have h : (((rO i).emb x) 0 : ℕ) < 768 := (((rO i).emb x) 0).isLt; omega⟩ : Fin 12) = i :=
    Fin.ext (by show (((rO i).emb x) 0 : ℕ) / 64 = i.val; omega)
  show DX v142 v143 f wq ((rO i).emb x) = _
  unfold DX
  rw [e]
  refine congrArg (oblk v142 v143 (blk f (rD i)) wq) (funext fun a => Fin.ext ?_)
  match a with
  | ⟨0, _⟩ => show (((rO i).emb x) 0 : ℕ) % 64 = (x 0 : ℕ); omega
  | ⟨1, _⟩ => show 0 + 1 * (x 1 : ℕ) = (x 1 : ℕ); omega
  | ⟨2, _⟩ => show 0 + 1 * (x 2 : ℕ) = (x 2 : ℕ); omega

/-! ## The codes' transfers, on one cell -/

/-- One chunk's credit. -/
def NY : ℕ := main_v1_1.dmaCredit S512x1152 .fp8e5m2
theorem NY_pos : 0 < NY := sig.dmaCredit_pos _ _ _ _ _ (by decide)

abbrev sY (off : Fin 2 → ℕ) (inb : ∀ a, off a + S512x1152.size a ≤ S6144x1152.size a) : Memref sig .tc .vmem S512x1152 .fp8e5m2 :=
  (Memref.whole cc0_scratch3 : Memref sig .tc .vmem S6144x1152 .fp8e5m2).slice (Rect.unit (s := S6144x1152) off S512x1152.size inb) (fun _ => rfl)
abbrev dY (off : Fin 2 → ℕ) (inb : ∀ a, off a + S512x1152.size a ≤ S6144x1152.size a) : Memref sig .tc .hbm S512x1152 .fp8e5m2 :=
  (Memref.whole main_v1_1 : Memref sig .tc .hbm S6144x1152 .fp8e5m2).slice (Rect.unit (s := S6144x1152) off S512x1152.size inb) (fun _ => rfl)
theorem sY_set (off inb) : (sY off inb).view.set = (Rect.unit (s := S6144x1152) off S512x1152.size inb).set := View.set_slice_whole _ _
theorem dY_set (off inb) : (dY off inb).view.set = (Rect.unit (s := S6144x1152) off S512x1152.size inb).set := View.set_slice_whole _ _
theorem dY_credit (off inb) : (dY off inb).view.dmaCredit = NY := rfl
theorem dY_amount (off inb) : (dY off inb).view.amount (SemLoc.dma cc0_scratch8.sem) = NY := rfl
theorem dY_read (off inb) (f : S6144x1152.Idx → Elt F .fp8e5m2) : (dY off inb).view.read (Elt F) f = (sY off inb).view.read (Elt F) f := rfl

/-- What chunk `i`'s transfer delivers. -/
def givY (c : Dev nD) (G : S6144x1152.Idx → Elt F .fp8e5m2) (i : Fin 12) : sProp 𝕄 :=
  iprop(on c main_v1_1 (rD i).set fullShare G ∗ on c cc0_scratch3 (rD i).set fullShare G)
instance givY_storable (c : Dev nD) (G : S6144x1152.Idx → Elt F .fp8e5m2) : ∀ i, Storable (upEmb : UEmb _ 𝕄) (givY c G i) := by
  intro i; unfold givY; infer_instance

abbrev batchY (c : Dev nD) (G : S6144x1152.Idx → Elt F .fp8e5m2) (k u : ℕ) : sProp 𝕄 :=
  Transfers.Batch EC (c : Thread nD τ) (SemLoc.dma cc0_scratch8.sem) () NY (givY c G) k u

theorem startY (c : Dev nD) (G g : S6144x1152.Idx → Elt F .fp8e5m2) {α : Type} {Q : α → sProp 𝕄} (i : Fin 12) {off : Fin 2 → ℕ}
    {inb : ∀ a, off a + S512x1152.size a ≤ S6144x1152.size a} {inb' : ∀ a, off a + S512x1152.size a ≤ S6144x1152.size a}
    {hsrc : (sY off inb).view.WordExact} {hdst : (dY off inb').view.WordExact} {hsem} {k : PUnit → Prog (TpuEff nD τ sig (Elt F) Λ₀ .tc) α}
    (hoff : off = ![512 * i.val, 0]) :
    iprop(on c cc0_scratch3 (rD i).set fullShare G ∗ on c main_v1_1 (rD i).set fullShare g ∗ batchY c G i.val 0)
      ⊢ iprop((batchY c G (i.val + 1) 0 -∗ WP c (k ⟨⟩) Q) -∗ WP c (.op (.enqueueDma (sY off inb) (.here (dY off inb')) (.dma cc0_scratch8.sem) hsrc hdst hsem) k) Q) := by
  subst hoff
  have hD : iprop(((dY _ inb').view.loc (c : Thread nD τ) ↦[(dY _ inb').view.set]{fullShare}
        (dY _ inb').view.write (Elt F) g (ReadAs.same.apply ((sY _ inb).view.read (Elt F) G)) Finset.univ)
      ∗ ((sY _ inb).view.loc (c : Thread nD τ) ↦[(sY _ inb).view.set]{fullShare} G)) ⊢ givY c G ⟨i.val, i.isLt⟩ := by
    rw [landed_eq c (sY _ inb) (dY _ inb') G g G (dY_read _ _ G), sY_set, dY_set]
    exact .rfl
  iintro ⟨Hs, Hd, HB⟩ Hk
  iapply (Transfers.wp_dmaBatch EC Variants.none (c : Thread nD τ) none (src := sY _ inb) (dst := dY _ inb') () NY (dY_amount _ _) subset_rfl
    (q := fullShare) (fs := G) (fd := g) (D := givY c G) (j := i.val) (u := 0) i.isLt (Nat.zero_le _) hD) $$ [Hs Hd HB]
  · rw [sY_set, dY_set]
    isplitl [Hs]; · iexact Hs
    isplitl [Hd]; · iexact Hd
    iexact HB
  iexact Hk

theorem drainY (c : Dev nD) (G : S6144x1152.Idx → Elt F .fp8e5m2) {α : Type} {Q : α → sProp 𝕄} (i : ℕ) (hi : i + 1 < 12) {off : Fin 2 → ℕ}
    {inb : ∀ a, off a + S512x1152.size a ≤ S6144x1152.size a} {inb' : ∀ a, off a + S512x1152.size a ≤ S6144x1152.size a}
    {hsrc : (sY off inb).view.WordExact} {hdst : (dY off inb').view.WordExact} {k : PUnit → Prog (TpuEff nD τ sig (Elt F) Λ₀ .tc) α} :
    iprop(batchY c G 12 (i * NY) ∗ (∃ W, owes (c : Thread nD τ) 0 W))
      ⊢ iprop((iprop(batchY c G 12 ((i + 1) * NY) ∗ (∃ W, owes (c : Thread nD τ) 0 W)) -∗ WP c (k ⟨⟩) Q)
        -∗ WP c (.op (.waitDma2 cc0_scratch8.sem (sY off inb) (dY off inb') hsrc hdst) k) Q) := by
  have hu : i * NY + NY < NY * 12 := by
    have h := NY_pos
    have h1 : (i + 1) * NY ≤ 11 * NY := Nat.mul_le_mul_right _ (by omega)
    rw [Nat.succ_mul] at h1; omega
  iintro ⟨HB, %W, HO⟩ Hk
  iapply (Transfers.wp_waitBatch EC Variants.none (c : Thread nD τ) none (srcw := sY off inb) (dstw := dY off inb') () (dY_credit _ _) (D := givY c G) (u := i * NY) hu (W := W)) $$ [HB HO]
  · isplitl [HB]; · iexact HB
    iexact HO
  iintro ⟨HB, HO⟩
  iapply Hk
  isplitl [HB]
  · rw [Nat.succ_mul]; iexact HB
  iexists _; iexact HO

theorem drainY_last (c : Dev nD) (G : S6144x1152.Idx → Elt F .fp8e5m2) {α : Type} {Q : α → sProp 𝕄} {off : Fin 2 → ℕ}
    {inb : ∀ a, off a + S512x1152.size a ≤ S6144x1152.size a} {inb' : ∀ a, off a + S512x1152.size a ≤ S6144x1152.size a}
    {hsrc : (sY off inb).view.WordExact} {hdst : (dY off inb').view.WordExact} {k : PUnit → Prog (TpuEff nD τ sig (Elt F) Λ₀ .tc) α} :
    iprop(batchY c G 12 (11 * NY) ∗ (∃ W, owes (c : Thread nD τ) 0 W))
      ⊢ iprop((iprop(on c main_v1_1 Finset.univ fullShare G ∗ on c cc0_scratch3 Finset.univ fullShare G
            ∗ semVal ((c : Thread nD τ), SemLoc.dma cc0_scratch8.sem) 0 ∗ (∃ W, owes (c : Thread nD τ) 0 W)) -∗ WP c (k ⟨⟩) Q)
        -∗ WP c (.op (.waitDma2 cc0_scratch8.sem (sY off inb) (dY off inb') hsrc hdst) k) Q) := by
  have hu : 11 * NY + NY = NY * 12 := by omega
  have hall : bigSep Finset.univ (givY c G) ⊢ iprop(on c main_v1_1 Finset.univ fullShare G ∗ on c cc0_scratch3 Finset.univ fullShare G) := by
    unfold givY
    rw [bigSep_sep', ← on_blocks c main_v1_1 (fun i => (rD i).set) fullShare G rD_disj rD_cover,
      ← on_blocks c cc0_scratch3 (fun i => (rD i).set) fullShare G rD_disj rD_cover]
  iintro ⟨HB, %W, HO⟩ Hk
  iapply (Transfers.wp_waitBatchLast EC Variants.none (c : Thread nD τ) none (srcw := sY off inb) (dstw := dY off inb') () (dY_credit _ _) NY_pos (D := givY c G) (u := 11 * NY) hu (W := W)) $$ [HB HO]
  · isplitl [HB]; · iexact HB
    iexact HO
  iintro ⟨HD, Hv, HO⟩
  ihave HD := hall $$ HD
  icases HD with ⟨H1, H2⟩
  iapply Hk
  isplitl [H1]; · iexact H1
  isplitl [H2]; · iexact H2
  isplitl [Hv]; · iexact Hv
  iexists _; iexact HO

/-! ## The result's transfers, through the ring -/

/-- Slot `j`'s cell. -/
abbrev cellO (j : Fin 4) : DmaSem sig := ⟨20 + j.val, by have := j.isLt; show 20 + j.val < 24; omega⟩
/-- The slot block `i` goes through. -/
abbrev slotOf (i : Fin 12) : Fin 4 := ⟨i.val % 4, Nat.mod_lt _ (by decide)⟩
/-- One block's credit. -/
def NO : ℕ := main_v1_0.dmaCredit S64x8x2176 .bf16
theorem NO_pos : 0 < NO := sig.dmaCredit_pos _ _ _ _ _ (by decide)

abbrev sO (off : Fin 4 → ℕ) (inb : ∀ a, off a + S1x64x8x2176.size a ≤ S4x64x8x2176.size a) : Memref sig .tc .vmem S64x8x2176 .bf16 :=
  ((Memref.whole cc0_scratch4 : Memref sig .tc .vmem S4x64x8x2176 .bf16).slice (Rect.unit (s := S4x64x8x2176) off S1x64x8x2176.size inb) (fun _ => rfl)).squeeze S64x8x2176 squeezes_S1x64x8x2176_S64x8x2176
abbrev dO (off : Fin 3 → ℕ) (inb : ∀ a, off a + S64x8x2176.size a ≤ S768x8x2176.size a) : Memref sig .tc .hbm S64x8x2176 .bf16 :=
  (Memref.whole main_v1_0 : Memref sig .tc .hbm S768x8x2176 .bf16).slice (Rect.unit (s := S768x8x2176) off S64x8x2176.size inb) (fun _ => rfl)
theorem sO_set (off inb) : (sO off inb).view.set = (Rect.unit (s := S4x64x8x2176) off S1x64x8x2176.size inb).set :=
  (View.set_reshape _ _).trans (View.set_slice_whole _ _)
theorem dO_set (off inb) : (dO off inb).view.set = (Rect.unit (s := S768x8x2176) off S64x8x2176.size inb).set := View.set_slice_whole _ _
theorem dO_credit (off inb) : (dO off inb).view.dmaCredit = NO := rfl
theorem sO_read (j : Fin 4) (inb) (w : S64x8x2176.Idx → Elt F .bf16) :
    (sO ![j.val, 0, 0, 0] inb).view.read (Elt F) (SL (shapeCast S1x64x8x2176 w shapeCasts_S64x8x2176_S1x64x8x2176)) = w := by
  have h : (sO ![j.val, 0, 0, 0] inb).view.read (Elt F) (SL (shapeCast S1x64x8x2176 w shapeCasts_S64x8x2176_S1x64x8x2176))
      = fun x => blk (SL (shapeCast S1x64x8x2176 w shapeCasts_S64x8x2176_S1x64x8x2176)) (rS j) (Shape.reshapeEquiv squeezes_S1x64x8x2176_S64x8x2176.numel_eq x) := rfl
  rw [h, blk_SL]
  funext x
  show w (Shape.reshapeEquiv _ (Shape.reshapeEquiv _ x)) = w x
  rw [Shape.reshapeEquiv_reshapeEquiv, Shape.reshapeEquiv_self]
theorem dO_read (i : Fin 12) (inb) (v142 : F .f32) (v143 : F .bf16) (f : S6144x1152.Idx → Elt F .bf16) (wq : S2176x1152.Idx → Elt F .fp8e4m3) :
    (dO ![64 * i.val, 0, 0] inb).view.read (Elt F) (DX v142 v143 f wq) = oblk v142 v143 (blk f (rD i)) wq :=
  (show (dO ![64 * i.val, 0, 0] inb).view.read (Elt F) (DX v142 v143 f wq) = blk (DX v142 v143 f wq) (rO i) from rfl).trans (blk_DX v142 v143 f wq i)

/-- The ring's contents while block `i` is in its slot. -/
abbrev ringC (v142 : F .f32) (v143 : F .bf16) (f : S6144x1152.Idx → Elt F .bf16) (wq : S2176x1152.Idx → Elt F .fp8e4m3) (i : Fin 12) : S4x64x8x2176.Idx → Elt F .bf16 :=
  SL (k0_pay3 v142 v143 (blk f (rD i)) wq)

/-- Block `i` on its way out of its slot. -/
abbrev flyO (c : Dev nD) (v142 : F .f32) (v143 : F .bf16) (f : S6144x1152.Idx → Elt F .bf16) (wq : S2176x1152.Idx → Elt F .fp8e4m3) (i : Fin 12) : sProp 𝕄 :=
  Transfers.Flight EC (c : Thread nD τ) (SemLoc.dma (cellO (slotOf i))) () NO
    iprop(on c main_v1_0 (rO i).set fullShare (DX v142 v143 f wq) ∗ on c cc0_scratch4 (rS (slotOf i)).set fullShare (ringC v142 v143 f wq i))

theorem startO (c : Dev nD) (v142 : F .f32) (v143 : F .bf16) (f : S6144x1152.Idx → Elt F .bf16) (wq : S2176x1152.Idx → Elt F .fp8e4m3) (g : S768x8x2176.Idx → Elt F .bf16)
    {α : Type} {Q : α → sProp 𝕄} (i : Fin 12) {off : Fin 4 → ℕ} {off' : Fin 3 → ℕ}
    {inb : ∀ a, off a + S1x64x8x2176.size a ≤ S4x64x8x2176.size a} {inb' : ∀ a, off' a + S64x8x2176.size a ≤ S768x8x2176.size a} {sem : DmaSem sig}
    {hsrc : (sO off inb).view.WordExact} {hdst : (dO off' inb').view.WordExact} {hsem} {k : PUnit → Prog (TpuEff nD τ sig (Elt F) Λ₀ .tc) α}
    (hoff : off = ![i.val % 4, 0, 0, 0]) (hoff' : off' = ![64 * i.val, 0, 0]) (hs : sem = cellO (slotOf i)) :
    iprop(on c cc0_scratch4 (rS (slotOf i)).set fullShare (ringC v142 v143 f wq i) ∗ on c main_v1_0 (rO i).set fullShare g
        ∗ semVal ((c : Thread nD τ), SemLoc.dma (cellO (slotOf i))) 0)
      ⊢ iprop((flyO c v142 v143 f wq i -∗ WP c (k ⟨⟩) Q) -∗ WP c (.op (.enqueueDma (sO off inb) (.here (dO off' inb')) (.dma sem) hsrc hdst hsem) k) Q) := by
  subst hoff; subst hoff'; subst hs
  have hr : (dO ![64 * i.val, 0, 0] inb').view.read (Elt F) (DX v142 v143 f wq) = (sO ![i.val % 4, 0, 0, 0] inb).view.read (Elt F) (ringC v142 v143 f wq i) :=
    (dO_read i inb' v142 v143 f wq).trans (sO_read (slotOf i) inb (oblk v142 v143 (blk f (rD i)) wq)).symm
  iintro ⟨Hs, Hd, Hv⟩ Hk
  iapply (wp_start c (src := sO _ inb) (dst := dO _ inb') (hsrc := hsrc) (hdst := hdst) (hsem := hsem) fullShare NO (ringC v142 v143 f wq i) g (DX v142 v143 f wq) (dO_credit _ _) NO_pos hr) $$ [Hs Hd Hv]
  · rw [sO_set, dO_set]
    isplitl [Hs]; · iexact Hs
    isplitl [Hd]; · iexact Hd
    iexact Hv
  rw [sO_set, dO_set]
  iexact Hk

theorem collectO (c : Dev nD) (v142 : F .f32) (v143 : F .bf16) (f : S6144x1152.Idx → Elt F .bf16) (wq : S2176x1152.Idx → Elt F .fp8e4m3)
    {α : Type} {Q : α → sProp 𝕄} (i : Fin 12) {off : Fin 4 → ℕ} {off' : Fin 3 → ℕ}
    {inb : ∀ a, off a + S1x64x8x2176.size a ≤ S4x64x8x2176.size a} {inb' : ∀ a, off' a + S64x8x2176.size a ≤ S768x8x2176.size a} {sem : DmaSem sig}
    {hsrc : (sO off inb).view.WordExact} {hdst : (dO off' inb').view.WordExact} {k : PUnit → Prog (TpuEff nD τ sig (Elt F) Λ₀ .tc) α} (hs : sem = cellO (slotOf i)) :
    iprop(flyO c v142 v143 f wq i ∗ (∃ W, owes (c : Thread nD τ) 0 W))
      ⊢ iprop((iprop(iprop(on c main_v1_0 (rO i).set fullShare (DX v142 v143 f wq) ∗ on c cc0_scratch4 (rS (slotOf i)).set fullShare (ringC v142 v143 f wq i))
            ∗ semVal ((c : Thread nD τ), SemLoc.dma (cellO (slotOf i))) 0 ∗ (∃ W, owes (c : Thread nD τ) 0 W)) -∗ WP c (k ⟨⟩) Q)
        -∗ WP c (.op (.waitDma2 sem (sO off inb) (dO off' inb') hsrc hdst) k) Q) := by
  subst hs
  iintro H Hk
  iapply (wp_collect c (srcw := sO off inb) (dstw := dO off' inb') (hsrc := hsrc) (hdst := hdst) (N := NO) (dO_credit _ _)) $$ H
  iexact Hk

/-! ## The loads and stores of one trip -/

theorem loadD_all (c : Dev nD) (f : S6144x1152.Idx → Elt F .bf16) {α : Type} {Q : α → sProp 𝕄} (i : Fin 12) {off : Fin 2 → ℕ}
    {inb : ∀ a, off a + S512x1152.size a ≤ S6144x1152.size a}
    {hl : (Memref.whole cc0_scratch0 : Memref sig .tc .vmem S6144x1152 .bf16).view.LoadsAt (Rect.unit (s := S6144x1152) off S512x1152.size inb).toLoadRect}
    {k : (S512x1152.Idx → Elt F .bf16) → Prog (TpuEff nD τ sig (Elt F) Λ₀ .tc) α} (hoff : off = ![512 * i.val, 0]) :
    on c cc0_scratch0 Finset.univ fullShare f ⊢ iprop((on c cc0_scratch0 Finset.univ fullShare f -∗ WP c (k (blk f (rD i))) Q)
      -∗ WP c (.op (.load (Memref.whole cc0_scratch0 : Memref sig .tc .vmem S6144x1152 .bf16) (Rect.unit (s := S6144x1152) off S512x1152.size inb).toLoadRect hl) k) Q) := by
  subst hoff
  have h2 : (((Memref.whole cc0_scratch0 : Memref sig .tc .vmem S6144x1152 .bf16)).access (rD i)).read (Elt F) f = blk f (rD i) := rfl
  exact wp_loadB c (m := (Memref.whole cc0_scratch0 : Memref sig .tc .vmem S6144x1152 .bf16)) (r := rD i) (hl := hl) (k := k) (f := f) (w := blk f (rD i)) (I := Finset.univ) (q := fullShare)
    (Finset.subset_univ _) h2

theorem loadQ_all (c : Dev nD) (f : S2176x1152.Idx → Elt F .fp8e4m3) {α : Type} {Q : α → sProp 𝕄}
    {inb : ∀ a, (![0, 0] : Fin 2 → ℕ) a + S2176x1152.size a ≤ S2176x1152.size a} {q : PosShare TreeShare}
    {hl : (Memref.whole cc0_scratch2 : Memref sig .tc .vmem S2176x1152 .fp8e4m3).view.LoadsAt (Rect.unit (s := S2176x1152) ![0, 0] S2176x1152.size inb).toLoadRect}
    {k : (S2176x1152.Idx → Elt F .fp8e4m3) → Prog (TpuEff nD τ sig (Elt F) Λ₀ .tc) α} :
    on c cc0_scratch2 Finset.univ q f ⊢ iprop((on c cc0_scratch2 Finset.univ q f -∗ WP c (k f) Q)
      -∗ WP c (.op (.load (Memref.whole cc0_scratch2 : Memref sig .tc .vmem S2176x1152 .fp8e4m3) (Rect.unit (s := S2176x1152) ![0, 0] S2176x1152.size inb).toLoadRect hl) k) Q) := by
  have h2 : (((Memref.whole cc0_scratch2 : Memref sig .tc .vmem S2176x1152 .fp8e4m3)).access (Rect.unit (s := S2176x1152) ![0, 0] S2176x1152.size inb)).read (Elt F) f = f := by
    funext x
    refine congrArg f (funext fun a => Fin.ext ?_)
    match a with
    | ⟨0, _⟩ => show 0 + 1 * (x 0 : ℕ) = (x 0 : ℕ); omega
    | ⟨1, _⟩ => show 0 + 1 * (x 1 : ℕ) = (x 1 : ℕ); omega
  exact wp_loadB c (m := (Memref.whole cc0_scratch2 : Memref sig .tc .vmem S2176x1152 .fp8e4m3)) (r := Rect.unit (s := S2176x1152) ![0, 0] S2176x1152.size inb) (hl := hl) (k := k) (f := f) (w := f) (I := Finset.univ) (q := q)
    (Finset.subset_univ _) h2

theorem loadY (c : Dev nD) (f : S6144x1152.Idx → Elt F .fp8e5m2) {α : Type} {Q : α → sProp 𝕄} (i : Fin 12) {off : Fin 2 → ℕ}
    {inb : ∀ a, off a + S512x1152.size a ≤ S6144x1152.size a}
    {hl : (Memref.whole cc0_scratch3 : Memref sig .tc .vmem S6144x1152 .fp8e5m2).view.LoadsAt (Rect.unit (s := S6144x1152) off S512x1152.size inb).toLoadRect}
    {k : (S512x1152.Idx → Elt F .fp8e5m2) → Prog (TpuEff nD τ sig (Elt F) Λ₀ .tc) α} (hoff : off = ![512 * i.val, 0]) :
    on c cc0_scratch3 (rD i).set fullShare f ⊢ iprop((on c cc0_scratch3 (rD i).set fullShare f -∗ WP c (k (blk f (rD i))) Q)
      -∗ WP c (.op (.load (Memref.whole cc0_scratch3 : Memref sig .tc .vmem S6144x1152 .fp8e5m2) (Rect.unit (s := S6144x1152) off S512x1152.size inb).toLoadRect hl) k) Q) := by
  subst hoff
  have h1 : (((Memref.whole cc0_scratch3 : Memref sig .tc .vmem S6144x1152 .fp8e5m2)).access (rD i)).set ⊆ (rD i).set := by rw [View.set_slice_whole]
  have h2 : (((Memref.whole cc0_scratch3 : Memref sig .tc .vmem S6144x1152 .fp8e5m2)).access (rD i)).read (Elt F) f = blk f (rD i) := rfl
  exact wp_loadB c (m := (Memref.whole cc0_scratch3 : Memref sig .tc .vmem S6144x1152 .fp8e5m2)) (r := rD i) (hl := hl) (k := k) (f := f) (w := blk f (rD i)) (I := (rD i).set) (q := fullShare) h1 h2

theorem storeY (c : Dev nD) (f G : S6144x1152.Idx → Elt F .fp8e5m2) {α : Type} {Q : α → sProp 𝕄} (i : Fin 12) {off : Fin 2 → ℕ}
    {inb : ∀ a, off a + S512x1152.size a ≤ S6144x1152.size a} {w : S512x1152.Idx → Elt F .fp8e5m2} {hx} {hm}
    {k : PUnit → Prog (TpuEff nD τ sig (Elt F) Λ₀ .tc) α} (hoff : off = ![512 * i.val, 0]) (hw : blk G (rD i) = w) :
    on c cc0_scratch3 (rD i).set fullShare f ⊢ iprop((on c cc0_scratch3 (rD i).set fullShare G -∗ WP c (k ⟨⟩) Q)
      -∗ WP c (.op (.store (Memref.whole cc0_scratch3 : Memref sig .tc .vmem S6144x1152 .fp8e5m2) (Rect.unit (s := S6144x1152) off S512x1152.size inb) w Finset.univ hx hm) k) Q) := by
  subst hoff
  have h1 : (((Memref.whole cc0_scratch3 : Memref sig .tc .vmem S6144x1152 .fp8e5m2)).access (rD i)).set = (rD i).set := View.set_slice_whole _ _
  have h2 : (((Memref.whole cc0_scratch3 : Memref sig .tc .vmem S6144x1152 .fp8e5m2)).access (rD i)).read (Elt F) G = w := hw
  exact wp_storeB c (m := (Memref.whole cc0_scratch3 : Memref sig .tc .vmem S6144x1152 .fp8e5m2)) (r := rD i) (w := w) (hx := hx) (hm := hm) (k := k) (I := (rD i).set) (f := f) G h1 h2

theorem loadS (c : Dev nD) (f : S4x64x8x2176.Idx → Elt F .bf16) {α : Type} {Q : α → sProp 𝕄} (j : Fin 4) {off : Fin 4 → ℕ}
    {inb : ∀ a, off a + S1x64x8x2176.size a ≤ S4x64x8x2176.size a}
    {hl : (Memref.whole cc0_scratch4 : Memref sig .tc .vmem S4x64x8x2176 .bf16).view.LoadsAt (Rect.unit (s := S4x64x8x2176) off S1x64x8x2176.size inb).toLoadRect}
    {k : (S1x64x8x2176.Idx → Elt F .bf16) → Prog (TpuEff nD τ sig (Elt F) Λ₀ .tc) α} (hoff : off = ![j.val, 0, 0, 0]) :
    on c cc0_scratch4 (rS j).set fullShare f ⊢ iprop((on c cc0_scratch4 (rS j).set fullShare f -∗ WP c (k (blk f (rS j))) Q)
      -∗ WP c (.op (.load (Memref.whole cc0_scratch4 : Memref sig .tc .vmem S4x64x8x2176 .bf16) (Rect.unit (s := S4x64x8x2176) off S1x64x8x2176.size inb).toLoadRect hl) k) Q) := by
  subst hoff
  have h1 : (((Memref.whole cc0_scratch4 : Memref sig .tc .vmem S4x64x8x2176 .bf16)).access (rS j)).set ⊆ (rS j).set := by rw [View.set_slice_whole]
  have h2 : (((Memref.whole cc0_scratch4 : Memref sig .tc .vmem S4x64x8x2176 .bf16)).access (rS j)).read (Elt F) f = blk f (rS j) := rfl
  exact wp_loadB c (m := (Memref.whole cc0_scratch4 : Memref sig .tc .vmem S4x64x8x2176 .bf16)) (r := rS j) (hl := hl) (k := k) (f := f) (w := blk f (rS j)) (I := (rS j).set) (q := fullShare) h1 h2

theorem storeS (c : Dev nD) (f G : S4x64x8x2176.Idx → Elt F .bf16) {α : Type} {Q : α → sProp 𝕄} (j : Fin 4) {off : Fin 4 → ℕ}
    {inb : ∀ a, off a + S1x64x8x2176.size a ≤ S4x64x8x2176.size a} {w : S1x64x8x2176.Idx → Elt F .bf16} {hx} {hm}
    {k : PUnit → Prog (TpuEff nD τ sig (Elt F) Λ₀ .tc) α} (hoff : off = ![j.val, 0, 0, 0]) (hw : blk G (rS j) = w) :
    on c cc0_scratch4 (rS j).set fullShare f ⊢ iprop((on c cc0_scratch4 (rS j).set fullShare G -∗ WP c (k ⟨⟩) Q)
      -∗ WP c (.op (.store (Memref.whole cc0_scratch4 : Memref sig .tc .vmem S4x64x8x2176 .bf16) (Rect.unit (s := S4x64x8x2176) off S1x64x8x2176.size inb) w Finset.univ hx hm) k) Q) := by
  subst hoff
  have h1 : (((Memref.whole cc0_scratch4 : Memref sig .tc .vmem S4x64x8x2176 .bf16)).access (rS j)).set = (rS j).set := View.set_slice_whole _ _
  have h2 : (((Memref.whole cc0_scratch4 : Memref sig .tc .vmem S4x64x8x2176 .bf16)).access (rS j)).read (Elt F) G = w := hw
  exact wp_storeB c (m := (Memref.whole cc0_scratch4 : Memref sig .tc .vmem S4x64x8x2176 .bf16)) (r := rS j) (w := w) (hx := hx) (hm := hm) (k := k) (I := (rS j).set) (f := f) G h1 h2

end Cert.Kernel.Hand
-- ==== Proof.KernelTrip.lean ====
/-
  Hand-written. One trip of the main loop: where every block, chunk and slot is after `k` trips, and what a trip does.
-/
module

public import proofs.«01_k».proof.Proof.KernelOut

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Where each block and slot is, after `k` trips -/

/-- Chunk `i` of the codes' two buffers, before its trip. -/
abbrev preY (c : Dev nD) (k : ℕ) (i : Fin 12) : sProp 𝕄 :=
  if k ≤ i.val then iprop((∃ g, on c cc0_scratch3 (rD i).set fullShare g) ∗ (∃ g, on c main_v1_1 (rD i).set fullShare g)) else iprop(emp)

/-- Block `i` of the result: landed below `a`, on its way below `b`, not written yet from `b` on. -/
abbrev outO (c : Dev nD) (v142 : F .f32) (v143 : F .bf16) (f : S6144x1152.Idx → Elt F .bf16) (wq : S2176x1152.Idx → Elt F .fp8e4m3) (a b : ℕ) (i : Fin 12) : sProp 𝕄 :=
  if i.val < a then on c main_v1_0 (rO i).set fullShare (DX v142 v143 f wq)
  else if i.val < b then flyO c v142 v143 f wq i else iprop(∃ g, on c main_v1_0 (rO i).set fullShare g)

/-- A free slot. -/
abbrev freeS (c : Dev nD) (j : Fin 4) : sProp 𝕄 :=
  iprop(semVal ((c : Thread nD τ), SemLoc.dma (cellO j)) 0 ∗ (∃ g, on c cc0_scratch4 (rS j).set fullShare g))
/-- Slot `j`, before its first trip. -/
abbrev slotS (c : Dev nD) (k : ℕ) (j : Fin 4) : sProp 𝕄 := if k ≤ j.val then freeS c j else iprop(emp)

theorem preY_take (c : Dev nD) (k : Fin 12) :
    bigSep Finset.univ (preY (F := F) c k.val) ⊢ iprop((∃ g, on c cc0_scratch3 (rD k).set fullShare g) ∗ (∃ g, on c main_v1_1 (rD k).set fullShare g)
      ∗ bigSep Finset.univ (preY (F := F) c (k.val + 1))) := by
  iintro H
  ihave H := (family_swap k (preY (F := F) c k.val) (preY (F := F) c (k.val + 1)) (fun j hj => by
    have : j.val ≠ k.val := fun e => hj (Fin.ext e)
    unfold preY
    by_cases h : k.val ≤ j.val
    · rw [if_pos h, if_pos (show k.val + 1 ≤ j.val by omega)]
    · rw [if_neg h, if_neg (show ¬ k.val + 1 ≤ j.val by omega)])) $$ H
  unfold preY
  rw [if_pos (le_refl k.val), if_neg (show ¬ k.val + 1 ≤ k.val by omega)]
  icases H with ⟨⟨H1, H2⟩, H⟩
  isplitl [H1]; · iexact H1
  isplitl [H2]; · iexact H2
  iapply H
  iempintro

theorem slot_take (c : Dev nD) (k : ℕ) (hk : k < 4) :
    bigSep Finset.univ (slotS (F := F) c k) ⊢ iprop(freeS (F := F) c ⟨k, hk⟩ ∗ bigSep Finset.univ (slotS (F := F) c (k + 1))) := by
  iintro H
  ihave H := (family_swap (⟨k, hk⟩ : Fin 4) (slotS (F := F) c k) (slotS (F := F) c (k + 1)) (fun j hj => by
    have : j.val ≠ k := fun e => hj (Fin.ext e)
    unfold slotS
    by_cases h : k ≤ j.val
    · rw [if_pos h, if_pos (show k + 1 ≤ j.val by omega)]
    · rw [if_neg h, if_neg (show ¬ k + 1 ≤ j.val by omega)])) $$ H
  unfold slotS
  rw [if_pos (show k ≤ (⟨k, hk⟩ : Fin 4).val from le_refl k), if_neg (show ¬ k + 1 ≤ (⟨k, hk⟩ : Fin 4).val by show ¬ k + 1 ≤ k; omega)]
  icases H with ⟨H1, H⟩
  isplitl [H1]; · iexact H1
  iapply H
  iempintro

theorem slot_none (c : Dev nD) (k : ℕ) (hk : 4 ≤ k) : slotS (F := F) c k = slotS (F := F) c (k + 1) := by
  funext j
  have := j.isLt
  unfold slotS
  rw [if_neg (by omega), if_neg (by omega)]

section
variable (c : Dev nD) (v142 : F .f32) (v143 : F .bf16) (f : S6144x1152.Idx → Elt F .bf16) (wq : S2176x1152.Idx → Elt F .fp8e4m3)

/-- Block `a` collected. -/
theorem out_collect (a b : ℕ) (ha : a < 12) (hab : a < b) :
    bigSep Finset.univ (outO c v142 v143 f wq a b) ⊢ iprop(flyO c v142 v143 f wq ⟨a, ha⟩
      ∗ (on c main_v1_0 (rO ⟨a, ha⟩).set fullShare (DX v142 v143 f wq) -∗ bigSep Finset.univ (outO c v142 v143 f wq (a + 1) b))) := by
  have h := family_swap (⟨a, ha⟩ : Fin 12) (outO c v142 v143 f wq a b) (outO c v142 v143 f wq (a + 1) b) (fun j hj => by
    have : j.val ≠ a := fun e => hj (Fin.ext e)
    unfold outO
    by_cases h : j.val < a
    · rw [if_pos h, if_pos (show j.val < a + 1 by omega)]
    · rw [if_neg h, if_neg (show ¬ j.val < a + 1 by omega)])
  have e1 : outO c v142 v143 f wq a b ⟨a, ha⟩ = flyO c v142 v143 f wq ⟨a, ha⟩ :=
    (if_neg (lt_irrefl a)).trans (if_pos hab)
  have e2 : outO c v142 v143 f wq (a + 1) b ⟨a, ha⟩ = on c main_v1_0 (rO ⟨a, ha⟩).set fullShare (DX v142 v143 f wq) :=
    if_pos (Nat.lt_succ_self a)
  rw [e1, e2] at h
  exact h

/-- Block `b` started. -/
theorem out_start (a b : ℕ) (hb : b < 12) (hab : a ≤ b) :
    bigSep Finset.univ (outO c v142 v143 f wq a b) ⊢ iprop((∃ g, on c main_v1_0 (rO ⟨b, hb⟩).set fullShare g)
      ∗ (flyO c v142 v143 f wq ⟨b, hb⟩ -∗ bigSep Finset.univ (outO c v142 v143 f wq a (b + 1)))) := by
  have h := family_swap (⟨b, hb⟩ : Fin 12) (outO c v142 v143 f wq a b) (outO c v142 v143 f wq a (b + 1)) (fun j hj => by
    have : j.val ≠ b := fun e => hj (Fin.ext e)
    unfold outO
    by_cases h : j.val < b
    · rw [if_pos h, if_pos (show j.val < b + 1 by omega)]
    · rw [if_neg h, if_neg (show ¬ j.val < b + 1 by omega)])
  have e1 : outO c v142 v143 f wq a b ⟨b, hb⟩ = iprop(∃ g, on c main_v1_0 (rO ⟨b, hb⟩).set fullShare g) :=
    (if_neg (by show ¬ b < a; omega)).trans (if_neg (lt_irrefl b))
  have e2 : outO c v142 v143 f wq a (b + 1) ⟨b, hb⟩ = flyO c v142 v143 f wq ⟨b, hb⟩ :=
    (if_neg (by show ¬ b < a; omega)).trans (if_pos (Nat.lt_succ_self b))
  rw [e1, e2] at h
  exact h

theorem trips4 : k0_t4_loop.trips = 12 := by decide
theorem cond1_iff : ∀ k : Fin k0_t4_loop.trips, k0_cond1 k = 1#1 ↔ 4 ≤ k.val := by decide
theorem sem10 : ∀ (k : Fin k0_t4_loop.trips) (h : k0_cond1 k = 1#1),
    ((cc0_scratch9.slice (Rect.unit (s := S4) (k0_off10 k) S1.size (k0_off10_inb k h))).squeeze S_ squeezes_S1_S_).sem = cellO (slotOf (k.cast trips4)) := by decide
theorem sem14 : ∀ k : Fin k0_t4_loop.trips,
    ((cc0_scratch9.slice (Rect.unit (s := S4) (k0_off14 k) S1.size (k0_off14_inb k))).squeeze S_ squeezes_S1_S_).sem = cellO (slotOf (k.cast trips4)) := by decide

/-- What trip `k` finds and leaves. -/
def inv4 (k : ℕ) (_ : Unit) : sProp 𝕄 :=
  iprop(on c cc0_scratch0 Finset.univ fullShare f ∗ on c cc0_scratch2 Finset.univ fullShare.right wq ∗ (∃ W, owes (c : Thread nD τ) 0 W)
    ∗ batchY c (YQ v143 f) k 0 ∗ bigSep Finset.univ (preY (F := F) c k) ∗ bigSep Finset.univ (outO c v142 v143 f wq (k - 4) k)
    ∗ bigSep Finset.univ (slotS (F := F) c k))

/-- One trip's compute: the chunk's codes written and sent, the slot freed, the block written into it. -/
theorem run1 (k : Fin k0_t4_loop.trips) (hk : k.val < 12) {α : Type} {Q : α → sProp 𝕄} {kk : PUnit → Prog (TpuEff nD τ sig (Elt F) Λ₀ .tc) α} :
    inv4 c v142 v143 f wq k.val ()
      ⊢ iprop((iprop(on c cc0_scratch0 Finset.univ fullShare f ∗ on c cc0_scratch2 Finset.univ fullShare.right wq ∗ (∃ W, owes (c : Thread nD τ) 0 W)
          ∗ batchY c (YQ v143 f) (k.val + 1) 0 ∗ bigSep Finset.univ (preY (F := F) c (k.val + 1))
          ∗ bigSep Finset.univ (outO c v142 v143 f wq (k.val + 1 - 4) k.val) ∗ bigSep Finset.univ (slotS (F := F) c (k.val + 1))
          ∗ semVal ((c : Thread nD τ), SemLoc.dma (cellO (slotOf ⟨k.val, hk⟩))) 0
          ∗ on c cc0_scratch4 (rS (slotOf ⟨k.val, hk⟩)).set fullShare (ringC v142 v143 f wq ⟨k.val, hk⟩)) -∗ WP c (kk ⟨⟩) Q)
        -∗ WP c (k0_part1_skel (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v142 v143 0#32 1#32 k >>= kk) Q) := by
  unfold inv4
  iintro ⟨HD, HQ, HO, HB, HY, HX, HS⟩ Hk
  ihave HY := (preY_take c ⟨k.val, hk⟩) $$ HY
  icases HY with ⟨⟨%gs, Hs⟩, ⟨%gd, Hd⟩, HY⟩
  unfold k0_part1_skel
  dsimp only
  iapply (loadD_all c f ⟨k.val, hk⟩ (k0_off8_eq k)) $$ HD
  iintro HD
  simp only [ret_bind']
  iapply (loadY c gs ⟨k.val, hk⟩ (k0_off8_eq k)) $$ Hs
  iintro Hs
  simp only [ret_bind']
  iapply (storeY c gs (YQ v143 f) ⟨k.val, hk⟩ (k0_off8_eq k) (k0_pay2_apply v143 (blk f (rD ⟨k.val, hk⟩))).symm) $$ Hs
  iintro Hs
  simp only [ret_bind']
  iapply (startY c (YQ v143 f) gd ⟨k.val, hk⟩ (k0_off9_eq k)) $$ [Hs Hd HB]
  · isplitl [Hs]; · iexact Hs
    isplitl [Hd]; · iexact Hd
    iexact HB
  iintro HB
  simp only [ret_bind']
  iapply (loadQ_all c wq) $$ HQ
  iintro HQ
  simp only [ret_bind']
  by_cases h4 : 4 ≤ k.val
  · have hc : k0_cond1 k = 1#1 := (cond1_iff k).mpr h4
    rw [dif_pos hc]
    rw [slot_none c k.val h4]
    ihave HX := (out_collect c v142 v143 f wq (k.val - 4) k.val (by omega) (by omega)) $$ HX
    icases HX with ⟨HF, HX⟩
    have hsl : cellO (slotOf (k.cast trips4)) = cellO (slotOf ⟨k.val - 4, by omega⟩) := by
      refine Fin.ext ?_
      show 20 + k.val % 4 = 20 + (k.val - 4) % 4
      omega
    have hss : slotOf ⟨k.val - 4, by omega⟩ = slotOf ⟨k.val, hk⟩ := by
      refine Fin.ext ?_
      show (k.val - 4) % 4 = k.val % 4
      omega
    iapply (collectO c v142 v143 f wq ⟨k.val - 4, by omega⟩ ((sem10 k hc).trans hsl)) $$ [HF HO]
    · isplitl [HF]; · iexact HF
      iexact HO
    iintro ⟨⟨HR, Hslot⟩, Hv, HO⟩
    simp only [ret_bind']
    rw [hss]
    ispecialize HX $$ HR
    rw [show k.val - 4 + 1 = k.val + 1 - 4 by omega]
    iapply (loadS c _ (slotOf ⟨k.val, hk⟩) (k0_off13_eq k)) $$ Hslot
    iintro Hslot
    simp only [ret_bind']
    iapply (storeS c _ (ringC v142 v143 f wq ⟨k.val, hk⟩) (slotOf ⟨k.val, hk⟩) (k0_off13_eq k) (blk_SL _ _)) $$ Hslot
    iintro Hslot
    simp only [ret_bind']
    iapply Hk
    isplitl [HD]; · iexact HD
    isplitl [HQ]; · iexact HQ
    isplitl [HO]; · iexact HO
    isplitl [HB]; · iexact HB
    isplitl [HY]; · iexact HY
    isplitl [HX]; · iexact HX
    isplitl [HS]; · iexact HS
    isplitl [Hv]; · iexact Hv
    iexact Hslot
  · have hc : ¬ k0_cond1 k = 1#1 := fun h => h4 ((cond1_iff k).mp h)
    rw [dif_neg hc]
    ihave HS := (slot_take c k.val (by omega)) $$ HS
    have hss : (⟨k.val, by omega⟩ : Fin 4) = slotOf ⟨k.val, hk⟩ := by
      refine Fin.ext ?_
      show k.val = k.val % 4
      omega
    rw [hss, show k.val - 4 = k.val + 1 - 4 by omega]
    icases HS with ⟨⟨Hv, %gq, Hslot⟩, HS⟩
    iapply (loadS c gq (slotOf ⟨k.val, hk⟩) (k0_off13_eq k)) $$ Hslot
    iintro Hslot
    simp only [ret_bind']
    iapply (storeS c gq (ringC v142 v143 f wq ⟨k.val, hk⟩) (slotOf ⟨k.val, hk⟩) (k0_off13_eq k) (blk_SL _ _)) $$ Hslot
    iintro Hslot
    simp only [ret_bind']
    iapply Hk
    isplitl [HD]; · iexact HD
    isplitl [HQ]; · iexact HQ
    isplitl [HO]; · iexact HO
    isplitl [HB]; · iexact HB
    isplitl [HY]; · iexact HY
    isplitl [HX]; · iexact HX
    isplitl [HS]; · iexact HS
    isplitl [Hv]; · iexact Hv
    iexact Hslot
end

end Cert.Kernel.Hand
-- ==== Proof.KernelTail.lean ====
/-
  Hand-written. The main loop run, and the waits after it.
-/
module

public import proofs.«01_k».proof.Proof.KernelTrip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

section
variable (c : Dev nD) (v142 : F .f32) (v143 : F .bf16) (f : S6144x1152.Idx → Elt F .bf16) (wq : S2176x1152.Idx → Elt F .fp8e4m3)

abbrev body4 (v97 : F .f32) (v108 : FVec F S1 .f32) : Fin k0_t4_loop.trips → Unit → Prog (TpuEff nD τ sig (Elt F) Λ₀ .tc) Unit :=
  k0_t4_body (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v97 v108

theorem step4 (v97 : F .f32) (v108 : FVec F S1 .f32) (k : Fin k0_t4_loop.trips) (u : Unit) :
    inv4 c (k0_pay15 v97 v108) (k0_pay16 v108) f wq k.val u ⊢ WP c (body4 v97 v108 k u) (inv4 c (k0_pay15 v97 v108) (k0_pay16 v108) f wq (k.val + 1)) := by
  have hk : k.val < 12 := trips4 ▸ k.isLt
  iintro HI
  unfold body4 k0_t4_body
  rw [k0_part1_eq_skeleton]
  iapply (run1 c (k0_pay15 v97 v108) (k0_pay16 v108) f wq k hk) $$ HI
  iintro ⟨HD, HQ, HO, HB, HY, HX, HS, Hv, Hslot⟩
  ihave HX := (out_start c (k0_pay15 v97 v108) (k0_pay16 v108) f wq (k.val + 1 - 4) k.val hk (by omega)) $$ HX
  icases HX with ⟨⟨%g, Hd⟩, HX⟩
  dsimp only
  iapply (startO c (k0_pay15 v97 v108) (k0_pay16 v108) f wq g ⟨k.val, hk⟩ (k0_off16_eq k) (k0_off15_eq k) (sem14 k)) $$ [Hslot Hd Hv]
  · isplitl [Hslot]; · iexact Hslot
    isplitl [Hd]; · iexact Hd
    iexact Hv
  iintro HF
  simp only [ret_bind']
  iapply (wpPure c _ _)
  ispecialize HX $$ HF
  unfold inv4
  isplitl [HD]; · iexact HD
  isplitl [HQ]; · iexact HQ
  isplitl [HO]; · iexact HO
  isplitl [HB]; · iexact HB
  isplitl [HY]; · iexact HY
  isplitl [HX]; · iexact HX
  iexact HS

/-- The loop over the chunks. -/
theorem loop4 (v97 : F .f32) (v108 : FVec F S1 .f32) {α : Type} {Q : α → sProp 𝕄} {kk : Unit → Prog (TpuEff nD τ sig (Elt F) Λ₀ .tc) α} :
    inv4 c (k0_pay15 v97 v108) (k0_pay16 v108) f wq 0 ()
      ⊢ iprop((inv4 c (k0_pay15 v97 v108) (k0_pay16 v108) f wq 12 () -∗ WP c (kk ⟨⟩) Q)
          -∗ WP c (Scf.Loop.for k0_t4_loop k0_t4_ok ⟨⟩ (body4 v97 v108) >>= kk) Q) := by
  iintro HI Hk
  iapply (Scf.wp_for_bind frame (wpE (defs₀ (F := F)) Variants.none (c : Thread nD τ) none) Set.univ k0_t4_loop.lb k0_t4_loop.ub k0_t4_loop.st k0_t4_ok
    ⟨⟩ (body4 v97 v108) (inv4 c (k0_pay15 v97 v108) (k0_pay16 v108) f wq) (step4 c f wq v97 v108)) $$ HI
  iintro %acc HI
  rw [show Scf.trips k0_t4_loop.lb k0_t4_loop.ub k0_t4_loop.st = 12 from trips4]
  iapply Hk
  iexact HI

abbrev mScaleY : Memref sig .tc .smem S1x1 .f32 := Memref.whole cc0_stg0_0
theorem mScaleY_set : (mScaleY.access (Rect.unit (s := S1x1) ![0, 0] S1x1.size inb_S1x1_S1x1_0_0)).set = Finset.univ := by
  rw [View.set_slice_whole]; decide
theorem mScaleY_read (a : F .f32) : (mScaleY.access (Rect.unit (s := S1x1) ![0, 0] S1x1.size inb_S1x1_S1x1_0_0)).read (Elt F) (fun _ => a) = fun _ => a := rfl
theorem storeScaleY (a : F .f32) {g} {α : Type} {Q : α → sProp 𝕄} {hx} {hm} {k : PUnit → Prog (TpuEff nD τ sig (Elt F) Λ₀ .tc) α} :
    on c cc0_stg0_0 Finset.univ fullShare g ⊢ iprop((on c cc0_stg0_0 Finset.univ fullShare (fun _ => a) -∗ WP c (k ⟨⟩) Q)
      -∗ WP c (.op (.store mScaleY (Rect.unit (s := S1x1) ![0, 0] S1x1.size inb_S1x1_S1x1_0_0) (fun _ => a) Finset.univ hx hm) k) Q) :=
  wp_storeB c (m := mScaleY) (r := Rect.unit (s := S1x1) ![0, 0] S1x1.size inb_S1x1_S1x1_0_0) (w := fun _ => a) (hx := hx) (hm := hm) (k := k) (I := Finset.univ) (f := g) (fun _ => a) mScaleY_set (mScaleY_read a)

/-- The gradient's scale stored and the main loop run. -/
theorem run6 (v97 : F .f32) (v108 : FVec F S1 .f32) {Q : PUnit → sProp 𝕄} :
    iprop((∃ g, on c cc0_stg0_0 Finset.univ fullShare g) ∗ inv4 c (k0_pay15 v97 v108) (k0_pay16 v108) f wq 0 ())
      ⊢ iprop((iprop(on c cc0_stg0_0 Finset.univ fullShare (fun _ => k0_pay14 v108) ∗ inv4 c (k0_pay15 v97 v108) (k0_pay16 v108) f wq 12 ()) -∗ Q ⟨⟩)
        -∗ WP c (k0_part6_skel (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v97 v108) Q) := by
  iintro ⟨⟨%g4, H4⟩, HI⟩ Hk
  unfold k0_part6_skel
  dsimp only
  iapply (wp_readScalar c (m := mScaleY) (f := g4)) $$ H4
  iintro %a H4
  iapply (storeScaleY c (k0_pay14 v108)) $$ H4
  iintro H4
  simp only [ret_bind']
  iapply (loop4 c f wq v97 v108) $$ HI
  iintro HI
  iapply (wpPure c _ _)
  iapply Hk
  isplitl [H4]; · iexact H4
  iexact HI

theorem out_all : bigSep Finset.univ (outO c v142 v143 f wq 12 12) ⊢ on c main_v1_0 Finset.univ fullShare (DX v142 v143 f wq) := by
  rw [on_blocks c main_v1_0 (fun i => (rO i).set) fullShare (DX v142 v143 f wq) rO_disj rO_cover,
    show outO c v142 v143 f wq 12 12 = (fun i => on c main_v1_0 (rO i).set fullShare (DX v142 v143 f wq)) from funext fun i => if_pos i.isLt]

theorem semE0 : ((cc0_scratch9.slice (Rect.unit (s := S4) ![0] S1.size inb_S4_S1_0)).squeeze S_ squeezes_S1_S_).sem = cellO (slotOf ⟨8, by decide⟩) := by decide
theorem semE1 : ((cc0_scratch9.slice (Rect.unit (s := S4) ![1] S1.size inb_S4_S1_1)).squeeze S_ squeezes_S1_S_).sem = cellO (slotOf ⟨9, by decide⟩) := by decide
theorem semE2 : ((cc0_scratch9.slice (Rect.unit (s := S4) ![2] S1.size inb_S4_S1_2)).squeeze S_ squeezes_S1_S_).sem = cellO (slotOf ⟨10, by decide⟩) := by decide
theorem semE3 : ((cc0_scratch9.slice (Rect.unit (s := S4) ![3] S1.size inb_S4_S1_3)).squeeze S_ squeezes_S1_S_).sem = cellO (slotOf ⟨11, by decide⟩) := by decide

/-- The last four blocks collected, the ring's slots and cells back. -/
theorem run7 {Q : PUnit → sProp 𝕄} :
    iprop(bigSep Finset.univ (outO c v142 v143 f wq 8 12) ∗ (∃ W, owes (c : Thread nD τ) 0 W))
      ⊢ iprop((iprop(on c main_v1_0 Finset.univ fullShare (DX v142 v143 f wq) ∗ (∃ g, on c cc0_scratch4 Finset.univ fullShare g)
            ∗ bigSep Finset.univ (fun j => semVal ((c : Thread nD τ), SemLoc.dma (cellO j)) 0) ∗ (∃ W, owes (c : Thread nD τ) 0 W)) -∗ Q ⟨⟩)
        -∗ WP c (k0_part7_skel (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HX, HO⟩ Hk
  unfold k0_part7_skel
  dsimp only
  ihave HX := (out_collect c v142 v143 f wq 8 12 (by decide) (by decide)) $$ HX
  icases HX with ⟨HF, HX⟩
  iapply (collectO c v142 v143 f wq ⟨8, by decide⟩ semE0) $$ [HF HO]
  · isplitl [HF]; · iexact HF
    iexact HO
  iintro ⟨⟨HR, HS0⟩, Hv0, HO⟩
  simp only [ret_bind']
  ispecialize HX $$ HR
  ihave HX := (out_collect c v142 v143 f wq 9 12 (by decide) (by decide)) $$ HX
  icases HX with ⟨HF, HX⟩
  iapply (collectO c v142 v143 f wq ⟨9, by decide⟩ semE1) $$ [HF HO]
  · isplitl [HF]; · iexact HF
    iexact HO
  iintro ⟨⟨HR, HS1⟩, Hv1, HO⟩
  simp only [ret_bind']
  ispecialize HX $$ HR
  ihave HX := (out_collect c v142 v143 f wq 10 12 (by decide) (by decide)) $$ HX
  icases HX with ⟨HF, HX⟩
  iapply (collectO c v142 v143 f wq ⟨10, by decide⟩ semE2) $$ [HF HO]
  · isplitl [HF]; · iexact HF
    iexact HO
  iintro ⟨⟨HR, HS2⟩, Hv2, HO⟩
  simp only [ret_bind']
  ispecialize HX $$ HR
  ihave HX := (out_collect c v142 v143 f wq 11 12 (by decide) (by decide)) $$ HX
  icases HX with ⟨HF, HX⟩
  iapply (collectO c v142 v143 f wq ⟨11, by decide⟩ semE3) $$ [HF HO]
  · isplitl [HF]; · iexact HF
    iexact HO
  iintro ⟨⟨HR, HS3⟩, Hv3, HO⟩
  simp only [ret_bind']
  ispecialize HX $$ HR
  ihave HX := (out_all c v142 v143 f wq) $$ HX
  ihave HS := (on_blocks_join c cc0_scratch4 (fun j => (rS j).set) (ringC v142 v143 f wq 0) rS_disj rS_cover) $$ [HS0 HS1 HS2 HS3]
  · rw [fin4]
    isplitl [HS0]; · iexists _; iexact HS0
    isplitl [HS1]; · iexists _; iexact HS1
    isplitl [HS2]; · iexists _; iexact HS2
    iexists _; iexact HS3
  iapply (wpPure c _ _)
  iapply Hk
  isplitl [HX]; · iexact HX
  isplitl [HS]; · iexact HS
  isplitl [Hv0 Hv1 Hv2 Hv3]
  · rw [fin4]
    isplitl [Hv0]; · iexact Hv0
    isplitl [Hv1]; · iexact Hv1
    isplitl [Hv2]; · iexact Hv2
    iexact Hv3
  iexact HO

/-- Nine of the twelve waits on the codes' cell. -/
theorem run8 (G : S6144x1152.Idx → Elt F .fp8e5m2) {Q : PUnit → sProp 𝕄} :
    iprop(batchY c G 12 (0 * NY) ∗ (∃ W, owes (c : Thread nD τ) 0 W))
      ⊢ iprop((iprop(batchY c G 12 (9 * NY) ∗ (∃ W, owes (c : Thread nD τ) 0 W)) -∗ Q ⟨⟩)
        -∗ WP c (k0_part8_skel (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  iintro ⟨HB, HO⟩ Hk
  unfold k0_part8_skel
  dsimp only
  iapply (drainY c G 0 (by decide)) $$ [HB HO]
  · isplitl [HB]; · iexact HB
    iexact HO
  iintro ⟨HB, HO⟩
  simp only [ret_bind']
  iapply (drainY c G 1 (by decide)) $$ [HB HO]
  · isplitl [HB]; · iexact HB
    iexact HO
  iintro ⟨HB, HO⟩
  simp only [ret_bind']
  iapply (drainY c G 2 (by decide)) $$ [HB HO]
  · isplitl [HB]; · iexact HB
    iexact HO
  iintro ⟨HB, HO⟩
  simp only [ret_bind']
  iapply (drainY c G 3 (by decide)) $$ [HB HO]
  · isplitl [HB]; · iexact HB
    iexact HO
  iintro ⟨HB, HO⟩
  simp only [ret_bind']
  iapply (drainY c G 4 (by decide)) $$ [HB HO]
  · isplitl [HB]; · iexact HB
    iexact HO
  iintro ⟨HB, HO⟩
  simp only [ret_bind']
  iapply (drainY c G 5 (by decide)) $$ [HB HO]
  · isplitl [HB]; · iexact HB
    iexact HO
  iintro ⟨HB, HO⟩
  simp only [ret_bind']
  iapply (drainY c G 6 (by decide)) $$ [HB HO]
  · isplitl [HB]; · iexact HB
    iexact HO
  iintro ⟨HB, HO⟩
  simp only [ret_bind']
  iapply (drainY c G 7 (by decide)) $$ [HB HO]
  · isplitl [HB]; · iexact HB
    iexact HO
  iintro ⟨HB, HO⟩
  simp only [ret_bind']
  iapply (drainY c G 8 (by decide)) $$ [HB HO]
  · isplitl [HB]; · iexact HB
    iexact HO
  iintro ⟨HB, HO⟩
  simp only [ret_bind']
  iapply (wpPure c _ _)
  iapply Hk
  isplitl [HB]; · iexact HB
  iexact HO
end

end Cert.Kernel.Hand
-- ==== Proof.KernelBody.lean ====
/-
  Hand-written. The whole body: what it leaves in every buffer it writes, as functions of its two inputs.
-/
module

public import proofs.«01_k».proof.Proof.KernelTail

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the kernel leaves -/

section
variable (fW : S2176x1152.Idx → Elt F .f32) (fD : S6144x1152.Idx → Elt F .bf16)

/-- The weights' largest magnitude, over the block's running maxima; -/
def wAmax : F .f32 := k0_pay6 (acc1 fW 4)
/-- over the largest representable code. -/
def wRatio : F .f32 := k0_pay7 (acc1 fW 4)
/-- The lanes' second coordinate. -/
abbrev lanes : IVec S2x128 32 := iota .tc S2x128 32 [1] iota_S2x128_d1_w32
/-- The weights' scale. -/
def wScale : F .f32 := k0_pay9 (wAmax fW) (wRatio fW) k0_pay8 lanes
/-- The weights' codes. -/
def wCodes : S2176x1152.Idx → Elt F .fp8e4m3 := WQ (wAmax fW) (wRatio fW) k0_pay8 lanes fW
/-- The gradient's largest magnitude. -/
def dAmax : FVec F S1 .f32 := k0_pay13 (acc3 fD 12)
/-- The gradient's scale. -/
def dScale : F .f32 := k0_pay14 (dAmax fD)
/-- The gradient's codes. -/
def dCodes : S6144x1152.Idx → Elt F .fp8e5m2 := YQ (k0_pay16 (dAmax fD)) fD
/-- The result. -/
def result : S768x8x2176.Idx → Elt F .bf16 := DX (k0_pay15 (wScale fW) (dAmax fD)) (k0_pay16 (dAmax fD)) fD (wCodes fW)
end

/-- Every cell of the kernel's own at zero. -/
def cells0 (c : Dev nD) : sProp 𝕄 :=
  iprop(bigSep Finset.univ (fun i => semVal ((c : Thread nD τ), SemLoc.dma (cellW i)) 0) ∗ bigSep Finset.univ (fun i => semVal ((c : Thread nD τ), SemLoc.dma (cellD i)) 0)
    ∗ semVal ((c : Thread nD τ), SemLoc.dma cc0_scratch7.sem) 0 ∗ semVal ((c : Thread nD τ), SemLoc.dma cc0_scratch8.sem) 0
    ∗ bigSep Finset.univ (fun j => semVal ((c : Thread nD τ), SemLoc.dma (cellO j)) 0))
/-- The five scratch buffers, whatever they hold. -/
def scratch (c : Dev nD) : sProp 𝕄 :=
  iprop((∃ g, on (F := F) c cc0_scratch0 Finset.univ fullShare g) ∗ (∃ g, on (F := F) c cc0_scratch1 Finset.univ fullShare g)
    ∗ (∃ g, on (F := F) c cc0_scratch2 Finset.univ fullShare g) ∗ (∃ g, on (F := F) c cc0_scratch3 Finset.univ fullShare g)
    ∗ (∃ g, on (F := F) c cc0_scratch4 Finset.univ fullShare g))
/-- What the body starts from; -/
def bodyPre (c : Dev nD) (fW : S2176x1152.Idx → Elt F .f32) (fD : S6144x1152.Idx → Elt F .bf16) : sProp 𝕄 :=
  iprop(on c main_v0 Finset.univ fullShare fD ∗ on c main_arg1 Finset.univ fullShare fW
    ∗ (∃ g, on (F := F) c main_v1_0 Finset.univ fullShare g) ∗ (∃ g, on (F := F) c main_v1_1 Finset.univ fullShare g) ∗ (∃ g, on (F := F) c main_v1_3 Finset.univ fullShare g)
    ∗ (∃ g, on (F := F) c cc0_stg0_0 Finset.univ fullShare g) ∗ (∃ g, on (F := F) c cc0_stg1_0 Finset.univ fullShare g)
    ∗ scratch (F := F) c ∗ cells0 (F := F) c ∗ (∃ W, owes (c : Thread nD τ) 0 W))
/-- and ends with. -/
def bodyPost (c : Dev nD) (fW : S2176x1152.Idx → Elt F .f32) (fD : S6144x1152.Idx → Elt F .bf16) : sProp 𝕄 :=
  iprop(on c main_v0 Finset.univ fullShare fD ∗ on c main_arg1 Finset.univ fullShare fW
    ∗ on c main_v1_0 Finset.univ fullShare (result fW fD) ∗ on c main_v1_1 Finset.univ fullShare (dCodes fD) ∗ on c main_v1_3 Finset.univ fullShare (wCodes fW)
    ∗ on c cc0_stg0_0 Finset.univ fullShare (fun _ => dScale fD) ∗ on c cc0_stg1_0 Finset.univ fullShare (fun _ => wScale fW)
    ∗ scratch (F := F) c ∗ cells0 (F := F) c ∗ (∃ W, owes (c : Thread nD τ) 0 W))

/-! ## The blocks handed to the loads -/

theorem preW_all (c : Dev nD) (fW : S2176x1152.Idx → Elt F .f32) :
    iprop(on c main_arg1 Finset.univ fullShare fW ∗ (∃ g, on (F := F) c cc0_scratch1 Finset.univ fullShare g)
        ∗ bigSep Finset.univ (fun i => semVal ((c : Thread nD τ), SemLoc.dma (cellW i)) 0)) ⊢ bigSep Finset.univ (preW c fW) := by
  iintro ⟨H, ⟨%g, Hg⟩, Hv⟩
  have h : iprop(on c main_arg1 Finset.univ fullShare fW ∗ on c cc0_scratch1 Finset.univ fullShare g
      ∗ bigSep Finset.univ (fun i => semVal ((c : Thread nD τ), SemLoc.dma (cellW i)) 0)) ⊢ bigSep Finset.univ (preW c fW) := by
    rw [on_blocks c main_arg1 (fun i => (rW i).set) fullShare fW rW_disj rW_cover, on_blocks c cc0_scratch1 (fun i => (rW i).set) fullShare g rW_disj rW_cover,
      ← bigSep_sep', ← bigSep_sep']
    exact bigSep_mono fun i _ => BIClass.sep_mono .rfl (BIClass.sep_mono (exists_intro (Φ := fun g => on c cc0_scratch1 (rW i).set fullShare g) g) .rfl)
  iapply h
  isplitl [H]; · iexact H
  isplitl [Hg]; · iexact Hg
  iexact Hv

theorem preD_all (c : Dev nD) (fD : S6144x1152.Idx → Elt F .bf16) :
    iprop(on c main_v0 Finset.univ fullShare fD ∗ (∃ g, on (F := F) c cc0_scratch0 Finset.univ fullShare g)
        ∗ bigSep Finset.univ (fun i => semVal ((c : Thread nD τ), SemLoc.dma (cellD i)) 0)) ⊢ bigSep Finset.univ (preD c fD) := by
  iintro ⟨H, ⟨%g, Hg⟩, Hv⟩
  have h : iprop(on c main_v0 Finset.univ fullShare fD ∗ on c cc0_scratch0 Finset.univ fullShare g
      ∗ bigSep Finset.univ (fun i => semVal ((c : Thread nD τ), SemLoc.dma (cellD i)) 0)) ⊢ bigSep Finset.univ (preD c fD) := by
    rw [on_blocks c main_v0 (fun i => (rD i).set) fullShare fD rD_disj rD_cover, on_blocks c cc0_scratch0 (fun i => (rD i).set) fullShare g rD_disj rD_cover,
      ← bigSep_sep', ← bigSep_sep']
    exact bigSep_mono fun i _ => BIClass.sep_mono .rfl (BIClass.sep_mono (exists_intro (Φ := fun g => on c cc0_scratch0 (rD i).set fullShare g) g) .rfl)
  iapply h
  isplitl [H]; · iexact H
  isplitl [Hg]; · iexact Hg
  iexact Hv

theorem preY_all (c : Dev nD) (g3 g1 : S6144x1152.Idx → Elt F .fp8e5m2) :
    iprop(on c cc0_scratch3 Finset.univ fullShare g3 ∗ on c main_v1_1 Finset.univ fullShare g1) ⊢ bigSep Finset.univ (preY (F := F) c 0) := by
  rw [on_blocks c cc0_scratch3 (fun i => (rD i).set) fullShare g3 rD_disj rD_cover, on_blocks c main_v1_1 (fun i => (rD i).set) fullShare g1 rD_disj rD_cover, ← bigSep_sep']
  refine bigSep_mono fun i _ => ?_
  have e : preY (F := F) c 0 i = iprop((∃ g, on c cc0_scratch3 (rD i).set fullShare g) ∗ (∃ g, on c main_v1_1 (rD i).set fullShare g)) := if_pos (Nat.zero_le _)
  rw [e]
  exact BIClass.sep_mono (exists_intro (Φ := fun g => on c cc0_scratch3 (rD i).set fullShare g) g3) (exists_intro (Φ := fun g => on c main_v1_1 (rD i).set fullShare g) g1)

theorem outO_all (c : Dev nD) (v142 : F .f32) (v143 : F .bf16) (f : S6144x1152.Idx → Elt F .bf16) (wq : S2176x1152.Idx → Elt F .fp8e4m3) (g : S768x8x2176.Idx → Elt F .bf16) :
    on c main_v1_0 Finset.univ fullShare g ⊢ bigSep Finset.univ (outO c v142 v143 f wq 0 0) := by
  rw [on_blocks c main_v1_0 (fun i => (rO i).set) fullShare g rO_disj rO_cover]
  refine bigSep_mono fun i _ => ?_
  have e : outO c v142 v143 f wq 0 0 i = iprop(∃ g, on c main_v1_0 (rO i).set fullShare g) := (if_neg (Nat.not_lt_zero _)).trans (if_neg (Nat.not_lt_zero _))
  rw [e]
  exact exists_intro (Φ := fun g => on c main_v1_0 (rO i).set fullShare g) g

theorem slotS_all (c : Dev nD) (g : S4x64x8x2176.Idx → Elt F .bf16) :
    iprop(bigSep Finset.univ (fun j => semVal ((c : Thread nD τ), SemLoc.dma (cellO j)) 0) ∗ on c cc0_scratch4 Finset.univ fullShare g) ⊢ bigSep Finset.univ (slotS (F := F) c 0) := by
  rw [on_blocks c cc0_scratch4 (fun j => (rS j).set) fullShare g rS_disj rS_cover, ← bigSep_sep']
  refine bigSep_mono fun j _ => ?_
  have e : slotS (F := F) c 0 j = freeS (F := F) c j := if_pos (Nat.zero_le _)
  rw [e]
  exact BIClass.sep_mono .rfl (exists_intro (Φ := fun g => on c cc0_scratch4 (rS j).set fullShare g) g)

theorem preW_each (c : Dev nD) (fW : S2176x1152.Idx → Elt F .f32) :
    bigSep Finset.univ (preW c fW) ⊢ iprop(preW c fW 0 ∗ preW c fW 1 ∗ preW c fW 2 ∗ preW c fW 3) := by rw [fin4]
theorem preD_each (c : Dev nD) (fD : S6144x1152.Idx → Elt F .bf16) :
    bigSep Finset.univ (preD c fD) ⊢ iprop(preD c fD 0 ∗ preD c fD 1 ∗ preD c fD 2 ∗ preD c fD 3 ∗ preD c fD 4 ∗ preD c fD 5 ∗ preD c fD 6 ∗ preD c fD 7 ∗ preD c fD 8 ∗ preD c fD 9 ∗ preD c fD 10 ∗ preD c fD 11) := by rw [fin12]
theorem flyW_all (c : Dev nD) (fW : S2176x1152.Idx → Elt F .f32) :
    iprop(flyW c fW 0 ∗ flyW c fW 1 ∗ flyW c fW 2 ∗ flyW c fW 3) ⊢ bigSep Finset.univ (flyW c fW) := by rw [fin4]
theorem flyD_all (c : Dev nD) (fD : S6144x1152.Idx → Elt F .bf16) :
    iprop(flyD c fD 0 ∗ flyD c fD 1 ∗ flyD c fD 2 ∗ flyD c fD 3 ∗ flyD c fD 4 ∗ flyD c fD 5 ∗ flyD c fD 6 ∗ flyD c fD 7 ∗ flyD c fD 8 ∗ flyD c fD 9 ∗ flyD c fD 10 ∗ flyD c fD 11) ⊢ bigSep Finset.univ (flyD c fD) := by rw [fin12]

/-- The whole body. -/
theorem run_body (c : Dev nD) (fW : S2176x1152.Idx → Elt F .f32) (fD : S6144x1152.Idx → Elt F .bf16) {Q : PUnit → sProp 𝕄} :
    bodyPre c fW fD ⊢ iprop((bodyPost c fW fD -∗ Q ⟨⟩) -∗ WP c (cc0_fp8_dgrad (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  unfold bodyPre scratch cells0
  iintro ⟨HD, HW, ⟨%gx, HX⟩, ⟨%gy, HY⟩, Hq, Ht0, Ht1, ⟨Hc0, Hc1, Hc2, ⟨%g3, Hc3⟩, ⟨%g4, Hc4⟩⟩, ⟨HvW, HvD, Hv7, Hv8, HvO⟩, HO⟩ Hk
  imod (Transfers.batch_alloc' (Lvl := ℕ) EC (c : Thread nD τ) () NY (givY c (YQ (k0_pay16 (dAmax fD)) fD)) (sm := SemLoc.dma cc0_scratch8.sem) (E := Set.univ)) $$ Hv8 with HB
  ihave HW := (preW_all c fW) $$ [HW Hc1 HvW]
  · isplitl [HW]; · iexact HW
    isplitl [Hc1]; · iexact Hc1
    iexact HvW
  ihave HD := (preD_all c fD) $$ [HD Hc0 HvD]
  · isplitl [HD]; · iexact HD
    isplitl [Hc0]; · iexact Hc0
    iexact HvD
  ihave HY := (preY_all c g3 gy) $$ [Hc3 HY]
  · isplitl [Hc3]; · iexact Hc3
    iexact HY
  ihave HS := (slotS_all c g4) $$ [HvO Hc4]
  · isplitl [HvO]; · iexact HvO
    iexact Hc4
  ihave HW := (preW_each c fW) $$ HW
  ihave HD := (preD_each c fD) $$ HD
  icases HW with ⟨HW0, HW1, HW2, HW3⟩
  icases HD with ⟨HD0, HD1, HD2, HD3, HD4, HD5, HD6, HD7, HD8, HD9, HD10, HD11⟩
  rw [cc0_fp8_dgrad_eq_skeleton]
  unfold cc0_fp8_dgrad_skel
  rw [k0_part2_eq_skeleton, k0_part3_eq_skeleton, k0_part4_eq_skeleton, k0_part5_eq_skeleton, k0_part6_eq_skeleton, k0_part7_eq_skeleton, k0_part8_eq_skeleton]
  iapply (wpBind c _ _ _)
  iapply (run2 c fW fD) $$ [HW0 HW1 HW2 HW3 HD0 HD1]
  · isplitl [HW0]; · iexact HW0
    isplitl [HW1]; · iexact HW1
    isplitl [HW2]; · iexact HW2
    isplitl [HW3]; · iexact HW3
    isplitl [HD0]; · iexact HD0
    iexact HD1
  iintro ⟨HW0, HW1, HW2, HW3, HD0, HD1⟩
  iapply (wpBind c _ _ _)
  iapply (run3 c fW fD) $$ [HD2 HD3 HD4 HD5 HD6 HD7]
  · isplitl [HD2]; · iexact HD2
    isplitl [HD3]; · iexact HD3
    isplitl [HD4]; · iexact HD4
    isplitl [HD5]; · iexact HD5
    isplitl [HD6]; · iexact HD6
    iexact HD7
  iintro ⟨HD2, HD3, HD4, HD5, HD6, HD7⟩
  ihave HW := (flyW_all c fW) $$ [HW0 HW1 HW2 HW3]
  · isplitl [HW0]; · iexact HW0
    isplitl [HW1]; · iexact HW1
    isplitl [HW2]; · iexact HW2
    iexact HW3
  iapply (wpBind c _ _ _)
  iapply (run4 c fW fD) $$ [HD8 HD9 HD10 HD11 HO HW]
  · isplitl [HD8]; · iexact HD8
    isplitl [HD9]; · iexact HD9
    isplitl [HD10]; · iexact HD10
    isplitl [HD11]; · iexact HD11
    isplitl [HO]; · iexact HO
    iexact HW
  iintro ⟨HD8, HD9, HD10, HD11, HO, HW⟩
  ihave HD := (flyD_all c fD) $$ [HD0 HD1 HD2 HD3 HD4 HD5 HD6 HD7 HD8 HD9 HD10 HD11]
  · isplitl [HD0]; · iexact HD0
    isplitl [HD1]; · iexact HD1
    isplitl [HD2]; · iexact HD2
    isplitl [HD3]; · iexact HD3
    isplitl [HD4]; · iexact HD4
    isplitl [HD5]; · iexact HD5
    isplitl [HD6]; · iexact HD6
    isplitl [HD7]; · iexact HD7
    isplitl [HD8]; · iexact HD8
    isplitl [HD9]; · iexact HD9
    isplitl [HD10]; · iexact HD10
    iexact HD11
  ihave HW := (hereW_split c fW) $$ HW
  icases HW with ⟨Hc1, HW, HvW⟩
  dsimp only
  iapply (wpBind c _ _ _)
  iapply (run5 c (wAmax fW) (wRatio fW) k0_pay8 lanes fW fD) $$ [Ht1 Hc1 Hc2 Hq Hv7 HO HD]
  · isplitl [Ht1]; · iexact Ht1
    isplitl [Hc1]; · iexact Hc1
    isplitl [Hc2]; · iexact Hc2
    isplitl [Hq]; · iexact Hq
    isplitl [Hv7]; · iexact Hv7
    isplitl [HO]; · iexact HO
    iexact HD
  iintro ⟨Ht1, Hc1, Hc2, Hq, HO, HD⟩
  ihave HD := (hereD_split c fD) $$ HD
  icases HD with ⟨Hc0, HD, HvD⟩
  ihave HX := (outO_all c (k0_pay15 (wScale fW) (dAmax fD)) (k0_pay16 (dAmax fD)) fD (wCodes fW) gx) $$ HX
  dsimp only
  iapply (wpBind c _ _ _)
  iapply (run6 c fD (wCodes fW) (wScale fW) (dAmax fD)) $$ [Ht0 Hc0 Hc2 HO HB HY HX HS]
  · isplitl [Ht0]; · iexact Ht0
    unfold inv4
    isplitl [Hc0]; · iexact Hc0
    isplitl [Hc2]; · iexact Hc2
    isplitl [HO]; · iexact HO
    isplitl [HB]; · iexact HB
    isplitl [HY]; · iexact HY
    isplitl [HX]; · iexact HX
    iexact HS
  unfold inv4
  iintro ⟨Ht0, Hc0, Hc2, HO, HB, HY, HX, HS⟩
  iapply (wpBind c _ _ _)
  iapply (run7 c (k0_pay15 (wScale fW) (dAmax fD)) (k0_pay16 (dAmax fD)) fD (wCodes fW)) $$ [HX HO]
  · isplitl [HX]; · iexact HX
    iexact HO
  iintro ⟨HX, Hc4, HvO, HO⟩
  iapply (wpBind c _ _ _)
  iapply (run8 c (dCodes fD)) $$ [HB HO]
  · isplitl [HB]
    · rw [Nat.zero_mul]; iexact HB
    iexact HO
  iintro ⟨HB, HO⟩
  iapply (drainY c (dCodes fD) 9 (by decide)) $$ [HB HO]
  · isplitl [HB]; · iexact HB
    iexact HO
  iintro ⟨HB, HO⟩
  simp only [ret_bind']
  iapply (drainY c (dCodes fD) 10 (by decide)) $$ [HB HO]
  · isplitl [HB]; · iexact HB
    iexact HO
  iintro ⟨HB, HO⟩
  simp only [ret_bind']
  iapply (drainY_last c (dCodes fD)) $$ [HB HO]
  · isplitl [HB]; · iexact HB
    iexact HO
  iintro ⟨HY, Hc3, Hv8, HO⟩
  simp only [ret_bind']
  iapply (collectQ c (wCodes fW)) $$ [Hq HO]
  · isplitl [Hq]; · iexact Hq
    iexact HO
  iintro ⟨⟨Hq, HQl⟩, Hv7, HO⟩
  simp only [ret_bind']
  ihave Hc2 := (pointsTo_share (PosShare.mem_left_op_right fullShare)).2 $$ [HQl Hc2]
  · isplitl [HQl]; · iexact HQl
    iexact Hc2
  iapply (wpPure c _ _)
  iapply Hk
  unfold bodyPost scratch cells0
  isplitl [HD]; · iexact HD
  isplitl [HW]; · iexact HW
  isplitl [HX]; · iexact HX
  isplitl [HY]; · iexact HY
  isplitl [Hq]; · iexact Hq
  isplitl [Ht0]; · iexact Ht0
  isplitl [Ht1]; · iexact Ht1
  isplitl [Hc0 Hc1 Hc2 Hc3 Hc4]
  · isplitl [Hc0]; · iexists _; iexact Hc0
    isplitl [Hc1]; · iexists _; iexact Hc1
    isplitl [Hc2]; · iexists _; iexact Hc2
    isplitl [Hc3]; · iexists _; iexact Hc3
    iexact Hc4
  isplitl [HvW HvD Hv7 Hv8 HvO]
  · isplitl [HvW]; · iexact HvW
    isplitl [HvD]; · iexact HvD
    isplitl [Hv7]; · iexact Hv7
    isplitl [Hv8]; · iexact Hv8
    iexact HvO
  iexact HO

end Cert.Kernel.Hand
-- ==== Proof.KernelFrame.lean ====
/-
  Hand-written. The launch around the body: the region runs, the two reshapes after it run, and every result is read back
  as a function of the arguments.
-/
module

public import proofs.«01_k».proof.Proof.KernelBody
public import proofs.«01_k».proof.Proof.Gen.Kernel.Frame
public import Idealize.ShloMosaic.Lib.Pipeline.FrameSuffixV
public import Idealize.ShloMosaic.Lib.Pipeline.ValueKit

@[expose] public section

noncomputable section

namespace Cert.Kernel.Hand

open Cert.Kernel Cert.Kernel.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the body reads in place, -/
def H0 : Finset (Ref sig .tc) := {main_v0, main_arg1}
/-- and the results it writes in place. -/
def R0 : Finset (Ref sig .tc) := {main_v1_0, main_v1_1, main_v1_3}
theorem H0_sub : H0 ⊆ Pipeline.restRefs sig spec0 := by decide
theorem R0_sub : R0 ⊆ Pipeline.restRefs sig spec0 \ H0 := by decide

/-- The kernel's own cells. -/
abbrev osem0 : Fin 22 → SemLoc sig := fun j => SemLoc.dma ⟨2 + j.val, by have := j.isLt; show 2 + j.val < 24; omega⟩
theorem ownSemFacts0 : Pipeline.OwnSemFacts spec0 osem0 := by decide

/-- The gradient and the weights as the region finds them. -/
abbrev inD (c : Dev nD) : S6144x1152.Idx → Elt F .bf16 := V m c main_v0
abbrev inW (c : Dev nD) : S2176x1152.Idx → Elt F .f32 := V m c main_arg1

/-- The buffers at the region's end. -/
def G (c : Dev nD) (b : Ref sig .tc) : Buf (Elt F) ((c : Thread nD τ).loc b) :=
  Function.update (Function.update (Function.update (V m c) main_v1_0 (result (inW m c) (inD m c))) main_v1_1 (dCodes (inD m c))) main_v1_3 (wCodes (inW m c)) b
theorem G_0 (c : Dev nD) : G m c main_v1_0 = result (inW m c) (inD m c) := by
  unfold G; rw [Function.update_of_ne (by decide), Function.update_of_ne (by decide), Function.update_self]
theorem G_1 (c : Dev nD) : G m c main_v1_1 = dCodes (inD m c) := by
  unfold G; rw [Function.update_of_ne (by decide), Function.update_self]
theorem G_3 (c : Dev nD) : G m c main_v1_3 = wCodes (inW m c) := by
  unfold G; rw [Function.update_self]

theorem cells_chain (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellW 0)) 0 ∗ semVal ((c : Thread nD τ), SemLoc.dma (cellW 1)) 0 ∗ semVal ((c : Thread nD τ), SemLoc.dma (cellW 2)) 0 ∗ semVal ((c : Thread nD τ), SemLoc.dma (cellW 3)) 0 ∗ semVal ((c : Thread nD τ), SemLoc.dma (cellD 0)) 0 ∗ semVal ((c : Thread nD τ), SemLoc.dma (cellD 1)) 0 ∗ semVal ((c : Thread nD τ), SemLoc.dma (cellD 2)) 0 ∗ semVal ((c : Thread nD τ), SemLoc.dma (cellD 3)) 0 ∗ semVal ((c : Thread nD τ), SemLoc.dma (cellD 4)) 0 ∗ semVal ((c : Thread nD τ), SemLoc.dma (cellD 5)) 0 ∗ semVal ((c : Thread nD τ), SemLoc.dma (cellD 6)) 0 ∗ semVal ((c : Thread nD τ), SemLoc.dma (cellD 7)) 0 ∗ semVal ((c : Thread nD τ), SemLoc.dma (cellD 8)) 0 ∗ semVal ((c : Thread nD τ), SemLoc.dma (cellD 9)) 0 ∗ semVal ((c : Thread nD τ), SemLoc.dma (cellD 10)) 0 ∗ semVal ((c : Thread nD τ), SemLoc.dma (cellD 11)) 0 ∗ semVal ((c : Thread nD τ), SemLoc.dma cc0_scratch7.sem) 0 ∗ semVal ((c : Thread nD τ), SemLoc.dma cc0_scratch8.sem) 0 ∗ semVal ((c : Thread nD τ), SemLoc.dma (cellO 0)) 0 ∗ semVal ((c : Thread nD τ), SemLoc.dma (cellO 1)) 0 ∗ semVal ((c : Thread nD τ), SemLoc.dma (cellO 2)) 0 ∗ semVal ((c : Thread nD τ), SemLoc.dma (cellO 3)) 0) := by
  rw [Pipeline.ownSems0_eq_of_list c osem0 [0, 1, 2, 3, 4, 5, 6, 7, 8, 9, 10, 11, 12, 13, 14, 15, 16, 17, 18, 19, 20, 21] (by decide) (by decide)]; rfl

theorem cells_in (c : Dev nD) :
    iprop(semVal ((c : Thread nD τ), SemLoc.dma (cellW 0)) 0 ∗ semVal ((c : Thread nD τ), SemLoc.dma (cellW 1)) 0 ∗ semVal ((c : Thread nD τ), SemLoc.dma (cellW 2)) 0 ∗ semVal ((c : Thread nD τ), SemLoc.dma (cellW 3)) 0 ∗ semVal ((c : Thread nD τ), SemLoc.dma (cellD 0)) 0 ∗ semVal ((c : Thread nD τ), SemLoc.dma (cellD 1)) 0 ∗ semVal ((c : Thread nD τ), SemLoc.dma (cellD 2)) 0 ∗ semVal ((c : Thread nD τ), SemLoc.dma (cellD 3)) 0 ∗ semVal ((c : Thread nD τ), SemLoc.dma (cellD 4)) 0 ∗ semVal ((c : Thread nD τ), SemLoc.dma (cellD 5)) 0 ∗ semVal ((c : Thread nD τ), SemLoc.dma (cellD 6)) 0 ∗ semVal ((c : Thread nD τ), SemLoc.dma (cellD 7)) 0 ∗ semVal ((c : Thread nD τ), SemLoc.dma (cellD 8)) 0 ∗ semVal ((c : Thread nD τ), SemLoc.dma (cellD 9)) 0 ∗ semVal ((c : Thread nD τ), SemLoc.dma (cellD 10)) 0 ∗ semVal ((c : Thread nD τ), SemLoc.dma (cellD 11)) 0 ∗ semVal ((c : Thread nD τ), SemLoc.dma cc0_scratch7.sem) 0 ∗ semVal ((c : Thread nD τ), SemLoc.dma cc0_scratch8.sem) 0 ∗ semVal ((c : Thread nD τ), SemLoc.dma (cellO 0)) 0 ∗ semVal ((c : Thread nD τ), SemLoc.dma (cellO 1)) 0 ∗ semVal ((c : Thread nD τ), SemLoc.dma (cellO 2)) 0 ∗ semVal ((c : Thread nD τ), SemLoc.dma (cellO 3)) 0) ⊢ cells0 (F := F) c := by
  unfold cells0
  rw [fin4, fin12, fin4]
  iintro ⟨A0, A1, A2, A3, B0, B1, B2, B3, B4, B5, B6, B7, B8, B9, B10, B11, C7, C8, E0, E1, E2, E3⟩
  isplitl [A0 A1 A2 A3]
  · isplitl [A0]; · iexact A0
    isplitl [A1]; · iexact A1
    isplitl [A2]; · iexact A2
    iexact A3
  isplitl [B0 B1 B2 B3 B4 B5 B6 B7 B8 B9 B10 B11]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  isplitl [C7]; · iexact C7
  isplitl [C8]; · iexact C8
  isplitl [E0]; · iexact E0
  isplitl [E1]; · iexact E1
  isplitl [E2]; · iexact E2
  iexact E3

theorem cells_out (c : Dev nD) :
    cells0 (F := F) c ⊢ iprop(semVal ((c : Thread nD τ), SemLoc.dma (cellW 0)) 0 ∗ semVal ((c : Thread nD τ), SemLoc.dma (cellW 1)) 0 ∗ semVal ((c : Thread nD τ), SemLoc.dma (cellW 2)) 0 ∗ semVal ((c : Thread nD τ), SemLoc.dma (cellW 3)) 0 ∗ semVal ((c : Thread nD τ), SemLoc.dma (cellD 0)) 0 ∗ semVal ((c : Thread nD τ), SemLoc.dma (cellD 1)) 0 ∗ semVal ((c : Thread nD τ), SemLoc.dma (cellD 2)) 0 ∗ semVal ((c : Thread nD τ), SemLoc.dma (cellD 3)) 0 ∗ semVal ((c : Thread nD τ), SemLoc.dma (cellD 4)) 0 ∗ semVal ((c : Thread nD τ), SemLoc.dma (cellD 5)) 0 ∗ semVal ((c : Thread nD τ), SemLoc.dma (cellD 6)) 0 ∗ semVal ((c : Thread nD τ), SemLoc.dma (cellD 7)) 0 ∗ semVal ((c : Thread nD τ), SemLoc.dma (cellD 8)) 0 ∗ semVal ((c : Thread nD τ), SemLoc.dma (cellD 9)) 0 ∗ semVal ((c : Thread nD τ), SemLoc.dma (cellD 10)) 0 ∗ semVal ((c : Thread nD τ), SemLoc.dma (cellD 11)) 0 ∗ semVal ((c : Thread nD τ), SemLoc.dma cc0_scratch7.sem) 0 ∗ semVal ((c : Thread nD τ), SemLoc.dma cc0_scratch8.sem) 0 ∗ semVal ((c : Thread nD τ), SemLoc.dma (cellO 0)) 0 ∗ semVal ((c : Thread nD τ), SemLoc.dma (cellO 1)) 0 ∗ semVal ((c : Thread nD τ), SemLoc.dma (cellO 2)) 0 ∗ semVal ((c : Thread nD τ), SemLoc.dma (cellO 3)) 0) := by
  unfold cells0
  rw [fin4, fin12, fin4]
  iintro ⟨⟨A0, A1, A2, A3⟩, ⟨B0, B1, B2, B3, B4, B5, B6, B7, B8, B9, B10, B11⟩, C7, C8, E0, E1, E2, E3⟩
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [C7]; · iexact C7
  isplitl [C8]; · iexact C8
  isplitl [E0]; · iexact E0
  isplitl [E1]; · iexact E1
  isplitl [E2]; · iexact E2
  iexact E3

theorem reads_eq (c : Dev nD) :
    (bigSep H0 (fun b => ((c : Thread nD τ).loc b) ↦{fullShare} V m c b) : sProp 𝕄)
      = iprop(on c main_v0 Finset.univ fullShare (inD m c) ∗ on c main_arg1 Finset.univ fullShare (inW m c)) := by
  rw [BI.bigSep_eq_bigSepL_of_eq [main_v0, main_arg1] (by decide) (by decide)]; rfl
theorem writes_eq (c : Dev nD) (K : (b : Ref sig .tc) → Buf (Elt F) ((c : Thread nD τ).loc b)) :
    (bigSep R0 (fun b => ((c : Thread nD τ).loc b) ↦{fullShare} K b) : sProp 𝕄)
      = iprop(on c main_v1_0 Finset.univ fullShare (K main_v1_0) ∗ on c main_v1_1 Finset.univ fullShare (K main_v1_1) ∗ on c main_v1_3 Finset.univ fullShare (K main_v1_3)) := by
  rw [BI.bigSep_eq_bigSepL_of_eq [main_v1_0, main_v1_1, main_v1_3] (by decide) (by decide)]; rfl

/-- The region's invariant with the written results at `K`, spelled out. -/
theorem inv_eq (c : Dev nD) (K : (c : Dev nD) → (b : Ref sig .tc) → Buf (Elt F) ((c : Thread nD τ).loc b)) :
    (Pipeline.ΦDRV osem0 spec0 H0 R0 (V m) K c : sProp 𝕄)
      = iprop(scratch (F := F) c ∗ (semVal ((c : Thread nD τ), SemLoc.dma (cellW 0)) 0 ∗ semVal ((c : Thread nD τ), SemLoc.dma (cellW 1)) 0 ∗ semVal ((c : Thread nD τ), SemLoc.dma (cellW 2)) 0 ∗ semVal ((c : Thread nD τ), SemLoc.dma (cellW 3)) 0 ∗ semVal ((c : Thread nD τ), SemLoc.dma (cellD 0)) 0 ∗ semVal ((c : Thread nD τ), SemLoc.dma (cellD 1)) 0 ∗ semVal ((c : Thread nD τ), SemLoc.dma (cellD 2)) 0 ∗ semVal ((c : Thread nD τ), SemLoc.dma (cellD 3)) 0 ∗ semVal ((c : Thread nD τ), SemLoc.dma (cellD 4)) 0 ∗ semVal ((c : Thread nD τ), SemLoc.dma (cellD 5)) 0 ∗ semVal ((c : Thread nD τ), SemLoc.dma (cellD 6)) 0 ∗ semVal ((c : Thread nD τ), SemLoc.dma (cellD 7)) 0 ∗ semVal ((c : Thread nD τ), SemLoc.dma (cellD 8)) 0 ∗ semVal ((c : Thread nD τ), SemLoc.dma (cellD 9)) 0 ∗ semVal ((c : Thread nD τ), SemLoc.dma (cellD 10)) 0 ∗ semVal ((c : Thread nD τ), SemLoc.dma (cellD 11)) 0 ∗ semVal ((c : Thread nD τ), SemLoc.dma cc0_scratch7.sem) 0 ∗ semVal ((c : Thread nD τ), SemLoc.dma cc0_scratch8.sem) 0 ∗ semVal ((c : Thread nD τ), SemLoc.dma (cellO 0)) 0 ∗ semVal ((c : Thread nD τ), SemLoc.dma (cellO 1)) 0 ∗ semVal ((c : Thread nD τ), SemLoc.dma (cellO 2)) 0 ∗ semVal ((c : Thread nD τ), SemLoc.dma (cellO 3)) 0)
        ∗ (on c main_v0 Finset.univ fullShare (inD m c) ∗ on c main_arg1 Finset.univ fullShare (inW m c))
        ∗ on c main_v1_0 Finset.univ fullShare (K c main_v1_0) ∗ on c main_v1_1 Finset.univ fullShare (K c main_v1_1) ∗ on c main_v1_3 Finset.univ fullShare (K c main_v1_3)) := by
  unfold Pipeline.ΦDRV
  rw [scopedRest0_eq, cells_chain, reads_eq, writes_eq]; rfl

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => fun _ => dScale (inD m c)
    | ⟨1, _⟩ => fun _ => wScale (inW m c)
  Φ t := Pipeline.ΦDRV osem0 spec0 H0 R0 (V m) (if t.val = 0 then V m else G m) c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = fun _ => dScale (inD m c) := by dsimp only [dats]
theorem after1 (c : Dev nD) (t : Fin cfg0.N) : (dats m 0 c).after 1 t = fun _ => wScale (inW m c) := by dsimp only [dats]
theorem inv_first (c : Dev nD) : (dats m 0 c).Φ t0_0.castSucc = Pipeline.ΦDRV osem0 spec0 H0 R0 (V m) (V m) c := by
  exact congrArg (fun K => Pipeline.ΦDRV osem0 spec0 H0 R0 (V m) K c) (if_pos rfl)
theorem inv_last (c : Dev nD) : (dats m 0 c).Φ t0_0.succ = Pipeline.ΦDRV osem0 spec0 H0 R0 (V m) (G m) c := by
  exact congrArg (fun K => Pipeline.ΦDRV osem0 spec0 H0 R0 (V m) K c) (if_neg (by decide))

theorem bodyAt_eq : bodyAt0 (F := F) t0_0 = cc0_fp8_dgrad (Memref.whole main_v0) (Memref.isWhole_whole _) (Memref.whole main_arg1) (Memref.isWhole_whole _) (Memref.whole main_v1_0) (Memref.isWhole_whole _) (Memref.whole main_v1_1) (Memref.isWhole_whole _) (Memref.whole cc0_stg0_0) (Memref.isWhole_whole _) (Memref.whole main_v1_3) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 := rfl
theorem stage0 (c : Dev nD) (d : S1x1.Idx → Elt F .f32) :
    (owns (c : Thread nD τ) (win0_0.stage (cfg0.slots t0_0 0)) fullShare d : sProp 𝕄) = on c cc0_stg0_0 Finset.univ fullShare d :=
  owns_whole (c : Thread nD τ) cc0_stg0_0 fullShare d
theorem stage1 (c : Dev nD) (d : S1x1.Idx → Elt F .f32) :
    (owns (c : Thread nD τ) (win0_1.stage (cfg0.slots t0_0 1)) fullShare d : sProp 𝕄) = on c cc0_stg1_0 Finset.univ fullShare d :=
  owns_whole (c : Thread nD τ) cc0_stg1_0 fullShare d

def ptPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
def ptPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

theorem owes_in (c : Dev nD) (t : Fin (cfg0.N + 1)) : (dats m 0 c).owesAt () t ⊢ iprop(∃ W, owes (c : Thread nD τ) 0 W) := by
  unfold Dat.owesAt Pipeline.owesWithin
  rw [show (dats m 0 c).owed t = 0 from rfl]
  iintro ⟨%W, -, H⟩
  iexists W; iexact H
theorem owes_out (c : Dev nD) (t : Fin (cfg0.N + 1)) : iprop(∃ W, owes (c : Thread nD τ) 0 W) ⊢ (dats m 0 c).owesAt () t := by
  unfold Dat.owesAt Pipeline.owesWithin
  rw [show (dats m 0 c).owed t = 0 from rfl]
  iintro ⟨%W, H⟩
  iexists W; isplitr; · ipureintro; exact fun _ _ => Or.inl trivial
  iexact H

theorem pt_in (c : Dev nD) : ptPre m c t0_0 ⊢ bodyPre c (inW m c) (inD m c) := by
  unfold ptPre bodyPre
  rw [inv_first, inv_eq]
  iintro ⟨⟨Hs, Hc, ⟨HD, HW⟩, HX, HY, HQ⟩, HO, ⟨%d0, H0⟩, ⟨%d1, H1⟩⟩
  ihave Hc := (cells_in c) $$ Hc
  ihave HO := (owes_in m c _) $$ HO
  ihave H0 := (Entails.of_eq (stage0 c _)) $$ H0
  ihave H1 := (Entails.of_eq (stage1 c _)) $$ H1
  isplitl [HD]; · iexact HD
  isplitl [HW]; · iexact HW
  isplitl [HX]; · iexists _; iexact HX
  isplitl [HY]; · iexists _; iexact HY
  isplitl [HQ]; · iexists _; iexact HQ
  isplitl [H0]; · iexists _; iexact H0
  isplitl [H1]; · iexists _; iexact H1
  isplitl [Hs]; · iexact Hs
  isplitl [Hc]; · iexact Hc
  iexact HO

theorem pt_out (c : Dev nD) : bodyPost c (inW m c) (inD m c) ⊢ ptPost m c t0_0 := by
  unfold ptPost bodyPost
  rw [inv_last, inv_eq, after0, after1, stage0, stage1, G_0, G_1, G_3]
  iintro ⟨HD, HW, HX, HY, HQ, H0, H1, Hs, Hc, HO⟩
  ihave Hc := (cells_out c) $$ Hc
  ihave HO := (owes_out m c t0_0.succ) $$ HO
  isplitl [HD HW HX HY HQ Hs Hc]
  · isplitl [Hs]; · iexact Hs
    isplitl [Hc]; · iexact Hc
    isplitl [HD HW]
    · isplitl [HD]; · iexact HD
      iexact HW
    isplitl [HX]; · iexact HX
    isplitl [HY]; · iexact HY
    iexact HQ
  isplitl [HO]; · iexact HO
  isplitl [H0]; · iexact H0
  iexact H1

theorem sound_body (c : Dev nD) (t : Fin cfg0.N) :
    ptPre m c t ⊢ wp frame (wpE (defs₀ (F := F)) Variants.none c none) Set.univ (bodyAt0 t) (fun _ => ptPost m c t) := by
  rw [fin_N0 t, bodyAt_eq]
  iintro H
  ihave H := (pt_in m c) $$ H
  iapply (run_body c (inW m c) (inD m c)) $$ H
  iintro H
  iapply (pt_out m c)
  iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers when the region has ended and before the lines after it. -/
abbrev endV (c : Dev nD) : Valuation τ sig (Elt F) :=
  Pipeline.withArrays spec0 c (Pipeline.withR (V0 m c) R0 c (G m c)) fun w => (dats m 0 c).arrAt w cfg0.N

set_option backward.isDefEq.respectTransparency.types false in
theorem run_main : θ_run defs (onTc (τ := τ) (main (F := F))) (s₀ m ρ) (fun r =>
    (∀ c : Dev nD, (∀ w, r.2.mem (((cfgs 0).spec w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (endV m c) (Proc.devRef .tc b))
    ∧ r.2.sem = fun _ => 0) :=
  Pipeline.θ_run_frame_dmaR_aroundV (Q' := _) (hQ' := fun r h => h) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := around m Variants.none) (hA := A_eq m)
    (hin := fun c => Entails.of_eq (inv_first m c).symm) (hout := fun c => Entails.of_eq (inv_last m c))

/-! ## What the run leaves, read -/

theorem end_bypass (c : Dev nD) (b : Ref sig .tc) (hb : ∀ w, Pipeline.arrRef spec0 w ≠ b) :
    endV m c (Proc.devRef .tc b) = Pipeline.withR (V0 m c) R0 c (G m c) (Proc.devRef .tc b) :=
  Pipeline.withArrays_of_ne _ c _ _ b hb
theorem end_kept (c : Dev nD) (b : Ref sig .tc) (hb : ∀ w, Pipeline.arrRef spec0 w ≠ b) (hR : b ∉ R0) : endV m c (Proc.devRef .tc b) = V m c b :=
  (end_bypass m c b hb).trans (Pipeline.withR_of_not_mem _ _ _ _ b hR)
theorem end_written (c : Dev nD) (b : Ref sig .tc) (hb : ∀ w, Pipeline.arrRef spec0 w ≠ b) (hR : b ∈ R0) : endV m c (Proc.devRef .tc b) = G m c b :=
  (end_bypass m c b hb).trans (Pipeline.withR_of_mem _ _ _ _ b hR)

/-- A buffer the two reshapes do not write is as the region left it. -/
theorem tail_kept (W : Valuation τ sig (Elt F)) (b : Ref sig .tc) (h2 : b ≠ main_v2) (h3 : b ≠ main_v3) :
    StableHlo.after (List.flatten [hostOps1]) W (Proc.devRef .tc b) = W (Proc.devRef .tc b) := by
  show StableHlo.after hostOps1 W (Proc.devRef .tc b) = _
  rw [StableHlo.after_cons, StableHlo.after_cons, StableHlo.after_nil, StableHlo.reshape_result_ne (h := h3), StableHlo.reshape_result_ne (h := h2)]
theorem tail_2 (W : Valuation τ sig (Elt F)) :
    StableHlo.after (List.flatten [hostOps1]) W (Proc.devRef .tc main_v2) = shapeCast S3x2048x2176 (W (Proc.devRef .tc main_v1_0)) shapeCasts_S768x8x2176_S3x2048x2176 := by
  show StableHlo.after hostOps1 W (Proc.devRef .tc main_v2) = _
  rw [StableHlo.after_cons, StableHlo.after_cons, StableHlo.after_nil, StableHlo.reshape_result_ne (h := by decide), StableHlo.reshape_result]; rfl
theorem tail_3 (W : Valuation τ sig (Elt F)) :
    StableHlo.after (List.flatten [hostOps1]) W (Proc.devRef .tc main_v3) = shapeCast S3x2048x1152 (W (Proc.devRef .tc main_v1_1)) shapeCasts_S6144x1152_S3x2048x1152 := by
  show StableHlo.after hostOps1 W (Proc.devRef .tc main_v3) = _
  rw [StableHlo.after_cons, StableHlo.after_cons, StableHlo.after_nil, StableHlo.reshape_result, StableHlo.reshape_result_ne (h := by decide)]; rfl
theorem head_0 (c : Dev nD) : inD m c = shapeCast S6144x1152 (m ((c : Thread nD τ).loc main_arg0)) shapeCasts_S3x2048x1152_S6144x1152 := by
  show StableHlo.after hostOps0 _ (Proc.devRef .tc main_v0) = _
  rw [StableHlo.after_cons, StableHlo.after_nil, StableHlo.reshape_result]; rfl

theorem scale_0 (c : Dev nD) : (dats m 0 c).arrAt 0 cfg0.N = (fun _ => dScale (inD m c) : S1x1.Idx → Elt F .f32) :=
  (dats m 0 c).arrAt_eq_of_after_last 0 t0_0 (by decide +kernel) _ fun j => by rw [after0]; rfl
theorem scale_1 (c : Dev nD) : (dats m 0 c).arrAt 1 cfg0.N = (fun _ => wScale (inW m c) : S1x1.Idx → Elt F .f32) :=
  (dats m 0 c).arrAt_eq_of_after_last 1 t0_0 (by decide +kernel) _ fun j => by rw [after1]; rfl

/-- THE RUN: the five results as functions of the two arguments, the arguments unchanged, every counter at zero. -/
theorem outcome : θ_run defs (onTc (τ := τ) (main (F := F))) ⟨m, fun _ => 0, ρ⟩ (fun r => (∀ c : Dev nD,
      r.2.mem ((c : Thread nD τ).loc main_v2) = shapeCast S3x2048x2176 (result (m ((c : Thread nD τ).loc main_arg1)) (inD m c)) shapeCasts_S768x8x2176_S3x2048x2176
      ∧ r.2.mem ((c : Thread nD τ).loc main_v3) = shapeCast S3x2048x1152 (dCodes (inD m c)) shapeCasts_S6144x1152_S3x2048x1152
      ∧ r.2.mem ((c : Thread nD τ).loc main_v1_2) = (fun _ => dScale (inD m c))
      ∧ r.2.mem ((c : Thread nD τ).loc main_v1_3) = wCodes (m ((c : Thread nD τ).loc main_arg1))
      ∧ r.2.mem ((c : Thread nD τ).loc main_v1_4) = (fun _ => wScale (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ⟨fun c => ?_, h.2⟩) (run_main m ρ)
  have hW : inW m c = m ((c : Thread nD τ).loc main_arg1) := V_main_arg1 m c
  obtain ⟨ha, hb⟩ := h.1 c
  refine ⟨?_, ?_, ?_, ?_, ?_, ?_, ?_⟩
  · rw [hb main_v2 (Pipeline.mem_restRefs_of main_v2 (by decide) (by decide)), tail_2, end_written m c main_v1_0 (by decide) (by decide), G_0, hW]
  · rw [hb main_v3 (Pipeline.mem_restRefs_of main_v3 (by decide) (by decide)), tail_3, end_written m c main_v1_1 (by decide) (by decide), G_1]
  · exact (ha 0).trans (scale_0 m c)
  · rw [hb main_v1_3 (Pipeline.mem_restRefs_of main_v1_3 (by decide) (by decide)), tail_kept _ _ (by decide) (by decide), end_written m c main_v1_3 (by decide) (by decide), G_3, hW]
  · exact (ha 1).trans ((scale_1 m c).trans (by rw [hW]; rfl))
  · rw [hb main_arg0 (Pipeline.mem_restRefs_of main_arg0 (by decide) (by decide)), tail_kept _ _ (by decide) (by decide), end_kept m c main_arg0 (by decide) (by decide)]; exact V_main_arg0 m c
  · rw [hb main_arg1 (Pipeline.mem_restRefs_of main_arg1 (by decide) (by decide)), tail_kept _ _ (by decide) (by decide), end_kept m c main_arg1 (by decide) (by decide)]; exact V_main_arg1 m c

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2.2.2.2, h.2⟩) (outcome m ρ)

end Cert.Kernel.Hand
-- ==== Proof.KernelIdealRun.lean ====
/-
  Hand-written. The idealized program is the printed program read at another instance: the two are equal by unfolding, so
  the run proved of the one is the run of the other.
-/
module

public import proofs.«01_k».proof.Proof.KernelFrame
public import proofs.«01_k».proof.Proof.Gen.KernelIdeal

@[expose] public section

noncomputable section

namespace Cert.KernelIdeal.Hand

open Idealize.ShloMosaic Idealize.SL.Sem Idealize.ShloMosaic.TcCoe

variable {F : FTy → Type} [FloatOps F]

theorem defs₀_eq : Cert.KernelIdeal.defs₀ (F := F) = Cert.Kernel.defs₀ (F := F) := by
  unfold Cert.KernelIdeal.defs₀ Cert.Kernel.defs₀
  refine congrArg Defs.onTc (funext fun l => funext fun a => ?_)
  match l, a with
  | ⟨0, _⟩, (t, s) => rfl
  | ⟨n + 1, h⟩, _ => exact absurd h (Nat.not_lt.2 (Nat.le_add_left _ _))
theorem defs_eq : Cert.KernelIdeal.defs (F := F) = Cert.Kernel.defs (F := F) := by
  show Pipeline.defs Cert.KernelIdeal.pcfgs Cert.KernelIdeal.defs₀ = _
  rw [defs₀_eq]; rfl

/-- The gradient as the kernel's region finds it. -/
abbrev flat (x : Cert.Kernel.S3x2048x1152.Idx → Elt F .bf16) : Cert.Kernel.S6144x1152.Idx → Elt F .bf16 :=
  shapeCast Cert.Kernel.S6144x1152 x Cert.Kernel.Gen.shapeCasts_S3x2048x1152_S6144x1152

theorem outcome (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c : Thread Cert.KernelIdeal.nD Cert.KernelIdeal.τ).loc Cert.KernelIdeal.main_v2) = shapeCast Cert.Kernel.S3x2048x2176 (Cert.Kernel.Hand.result (m ((c : Thread Cert.KernelIdeal.nD Cert.KernelIdeal.τ).loc Cert.KernelIdeal.main_arg1)) (flat (m ((c : Thread Cert.KernelIdeal.nD Cert.KernelIdeal.τ).loc Cert.KernelIdeal.main_arg0)))) Cert.Kernel.Gen.shapeCasts_S768x8x2176_S3x2048x2176
      ∧ r.2.mem ((c : Thread Cert.KernelIdeal.nD Cert.KernelIdeal.τ).loc Cert.KernelIdeal.main_v3) = shapeCast Cert.Kernel.S3x2048x1152 (Cert.Kernel.Hand.dCodes (flat (m ((c : Thread Cert.KernelIdeal.nD Cert.KernelIdeal.τ).loc Cert.KernelIdeal.main_arg0)))) Cert.Kernel.Gen.shapeCasts_S6144x1152_S3x2048x1152
      ∧ r.2.mem ((c : Thread Cert.KernelIdeal.nD Cert.KernelIdeal.τ).loc Cert.KernelIdeal.main_v1_2) = (fun _ => Cert.Kernel.Hand.dScale (flat (m ((c : Thread Cert.KernelIdeal.nD Cert.KernelIdeal.τ).loc Cert.KernelIdeal.main_arg0))))
      ∧ r.2.mem ((c : Thread Cert.KernelIdeal.nD Cert.KernelIdeal.τ).loc Cert.KernelIdeal.main_v1_3) = Cert.Kernel.Hand.wCodes (m ((c : Thread Cert.KernelIdeal.nD Cert.KernelIdeal.τ).loc Cert.KernelIdeal.main_arg1))
      ∧ r.2.mem ((c : Thread Cert.KernelIdeal.nD Cert.KernelIdeal.τ).loc Cert.KernelIdeal.main_v1_4) = (fun _ => Cert.Kernel.Hand.wScale (m ((c : Thread Cert.KernelIdeal.nD Cert.KernelIdeal.τ).loc Cert.KernelIdeal.main_arg1)))
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) := by
  rw [defs_eq]
  refine (θ_run _ _ _).mono (fun r h => ⟨fun c => ?_, h.2⟩) (Cert.Kernel.Hand.outcome m g)
  obtain ⟨h1, h2, h3, h⟩ := h.1 c
  rw [Cert.Kernel.Hand.head_0] at h1 h2 h3
  exact ⟨h1, h2, h3, h⟩

theorem frame (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) :=
  (θ_run _ _ _).mono (fun _ h => ⟨fun c => (h.1 c).2.2.2.2.2, h.2⟩) (outcome m g)

end Cert.KernelIdeal.Hand
-- ==== Proof.ValueScale.lean ====
/-
  Hand-written. The power-of-two scale over the reals: the kernel's, built from an exponent field found by comparisons, and
  the reference's, the least power above the ratio, are one number, and the kernel's inverse is its reciprocal.
-/
module

public import proofs.«01_k».proof.Proof.KernelBody
public import proofs.«01_k».proof.Proof.Gen.ReferenceIdeal.Value
public import Idealize.ShloMosaic.PureOps.Ideal.Laws

@[expose] public section

noncomputable section

namespace Cert.Value

open Idealize.ShloMosaic
open Cert.Kernel (S1 S1x1x1 S2x128 S1x2x128)
open Cert.Kernel.Gen

/-! ## The two scales as printed -/

/-- The lanes' numbers. -/
def lane : IVec S2x128 32 :=
  addi (muli (iota .tc S2x128 32 [0] iota_S2x128_d0_w32) (broadcast S2x128 128#32)) (iota .tc S2x128 32 [1] iota_S2x128_d1_w32)

/-- The lanes whose number, put in an exponent field, is a float at most `x`. -/
def picked (x : Ideal .f32) : IVec S2x128 32 :=
  select (cmpf (F := Ideal) .oge (broadcast S2x128 x) (bitcastToFloat .f32 (shli lane (broadcast S2x128 23#32)))) lane (broadcast S2x128 0#32)

/-- The exponent field of `x`. -/
def field (x : Ideal .f32) : BitVec 32 :=
  extractAt ![0, 0, 0] (shapeCast S1x1x1 (multiReductionI .maxsi [1, 2] S1 (shapeCast S1x2x128 (picked x) shapeCasts_S2x128_S1x2x128)
    2147483648#32 reduces_S1x2x128_S1 rfl) shapeCasts_S1_S1x1x1) inpos_S1x1x1_p0_0_0

/-- The kernel's exponent. -/
def expo (a x : Ideal .f32) : BitVec 32 :=
  Scalar.select (Scalar.ori (Scalar.ori (Scalar.cmpi .eq (field x) 0#32) (Scalar.cmpi .eq (field x) 255#32))
    (Scalar.cmpf (F := Ideal) .oeq a (Scalar.ofBits .f32 0x00000000#32))) 0#32 (Scalar.subi (field x) 126#32)

def kScale (a x : Ideal .f32) : Ideal .f32 := Scalar.ofBits .f32 (Scalar.shli (Scalar.addi 127#32 (expo a x)) 23#32)
def kInv (a x : Ideal .f32) : Ideal .f32 := Scalar.ofBits .f32 (Scalar.shli (Scalar.subi 127#32 (expo a x)) 23#32)

/-- The powers of two the reference looks through. -/
def powers : FVec Ideal S2x128 .f32 := exp2 (sitofp .f32 (subi lane (broadcast S2x128 127#32)))

/-- The powers above `x`. -/
def above (x : Ideal .f32) : FVec Ideal S2x128 .f32 :=
  select (cmpf (F := Ideal) .ogt powers (broadcast S2x128 x)) powers (broadcast S2x128 (Scalar.ofBits (F := Ideal) .f32 0x7F800000#32))

/-- The least of them. -/
def least (x : Ideal .f32) : Ideal .f32 :=
  extractAt ![0, 0, 0] (shapeCast S1x1x1 (multiReduction (F := Ideal) .minimumf [1, 2] S1 (shapeCast S1x2x128 (above x) shapeCasts_S2x128_S1x2x128)
    0x7F800000#32 reduces_S1x2x128_S1 (.inl rfl) rfl) shapeCasts_S1_S1x1x1) inpos_S1x1x1_p0_0_0

def rScale (a x : Ideal .f32) : Ideal .f32 :=
  Scalar.select (Scalar.ori (Scalar.cmpf (F := Ideal) .oeq a (Scalar.ofBits .f32 0x00000000#32))
    (Scalar.cmpf (F := Ideal) .olt x (Scalar.ofBits .f32 0x00800000#32))) (Scalar.ofBits .f32 0x3F800000#32) (least x)

/-! ## The values of bit patterns -/

theorem two_shift (m : ℤ) : (1 : ℝ) * ((2 ^ 23 + 0 : ℕ) : ℝ) * (2 : ℝ) ^ (m - ((23 : ℕ) : ℤ)) = (2 : ℝ) ^ m := by
  have h : (2 : ℝ) ^ (m - ((23 : ℕ) : ℤ)) = (2 : ℝ) ^ m / (2 : ℝ) ^ (23 : ℕ) := by
    rw [zpow_sub₀ (by norm_num : (2 : ℝ) ≠ 0), zpow_natCast]
  rw [h, Nat.add_zero, Nat.cast_pow, Nat.cast_ofNat, one_mul, mul_div_cancel₀]
  exact pow_ne_zero _ (by norm_num)

/-- An exponent field alone is a power of two. -/
theorem ofBits_field (n : ℕ) (h0 : 1 ≤ n) (h1 : n ≤ 254) :
    Ideal.ofBits .f32 (BitVec.ofNat 32 n <<< (23#32)) = (((2 : ℝ) ^ ((n : ℤ) - 127) : ℝ) : EReal) := by
  have e1 : ∀ n : Fin 256, ((BitVec.ofNat 32 n.val <<< (23#32)).extractLsb' 23 8).toNat = n.val := by decide
  have e2 : ∀ n : Fin 256, ((BitVec.ofNat 32 n.val <<< (23#32)).extractLsb' 0 23).toNat = 0 := by decide
  have e3 : ∀ n : Fin 256, ((BitVec.ofNat 32 n.val <<< (23#32)).extractLsb' 31 1 == 1#1) = false := by decide
  have f1 := e1 ⟨n, by omega⟩
  have f2 := e2 ⟨n, by omega⟩
  have f3 := e3 ⟨n, by omega⟩
  dsimp only at f1 f2 f3
  have g1 : ¬ n = 2 ^ 8 - 1 := by omega
  have g2 : ¬ n = 0 := by omega
  have key := two_shift ((n : ℤ) - 127)
  rw [← key]
  unfold Ideal.ofBits Ideal.ieee
  dsimp only
  rw [f1, f2, f3, if_neg g1, if_neg g2]
  rfl

theorem ofBits_field_top : Ideal.ofBits .f32 (BitVec.ofNat 32 255 <<< (23#32)) = ⊤ := by
  simp [Ideal.ofBits, Ideal.ieee]

theorem ofBits_zero : Ideal.ofBits .f32 0x00000000#32 = 0 := by simp [Ideal.ofBits, Ideal.ieee]
theorem ofBits_zero16 : Ideal.ofBits .bf16 0x0000#16 = 0 := by simp [Ideal.ofBits, Ideal.ieee]
theorem ofBits_one : Ideal.ofBits .f32 0x3F800000#32 = 1 := by simp [Ideal.ofBits, Ideal.ieee, -EReal.coe_mul]; norm_num
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_bot16 : Ideal.ofBits .bf16 0xFF80#16 = ⊥ := by simp [Ideal.ofBits, Ideal.ieee]
theorem ofBits_tiny : Ideal.ofBits .f32 0x00800000#32 = (((2 : ℝ) ^ (-126 : ℤ) : ℝ) : EReal) := ofBits_field 1 (by decide) (by decide)

/-! ## The lanes -/

/-- Lane `i`'s number. -/
abbrev num (i : S2x128.Idx) : ℕ := (i 0 : ℕ) * 128 + (i 1 : ℕ)

theorem num_lt (i : S2x128.Idx) : num i < 256 := by
  have h0 : (i 0 : ℕ) < 2 := (i 0).isLt
  have h1 : (i 1 : ℕ) < 128 := (i 1).isLt
  unfold num; omega

theorem lane_apply (i : S2x128.Idx) : lane i = BitVec.ofNat 32 (num i) := by
  have h0 : (i 0 : ℕ) < 2 := (i 0).isLt
  have h1 : (i 1 : ℕ) < 128 := (i 1).isLt
  show BitVec.ofNat 32 (0 * 2 + (i 0 : ℕ)) * 128#32 + BitVec.ofNat 32 (0 * 128 + (i 1 : ℕ)) = _
  apply BitVec.eq_of_toNat_eq
  simp only [BitVec.toNat_add, BitVec.toNat_mul, BitVec.toNat_ofNat]
  unfold num
  omega

/-- The lane of a number. -/
def laneOf (n : ℕ) (h : n < 256) : S2x128.Idx := ValueIdx.ix2 (⟨n / 128, by omega⟩ : Fin 2) (⟨n % 128, by omega⟩ : Fin 128)

theorem num_laneOf (n : ℕ) (h : n < 256) : num (laneOf n h) = n := by
  show n / 128 * 128 + n % 128 = n
  omega

/-- The float at lane `i`. -/
theorem pattern_apply (i : S2x128.Idx) :
    bitcastToFloat (F := Ideal) .f32 (shli lane (broadcast S2x128 23#32)) i = Ideal.ofBits .f32 (BitVec.ofNat 32 (num i) <<< (23#32)) := by
  have e : IntOp.shli .vector (lane i) 23#32 = lane i <<< (23#32) := if_pos (by decide)
  rw [← lane_apply, ← e]
  rfl

theorem powers_apply (i : S2x128.Idx) : powers i = (((2 : ℝ) ^ ((num i : ℤ) - 127) : ℝ) : EReal) := by
  have hn := num_lt i
  have e : ∀ n : Fin 256, (BitVec.ofNat 32 n.val - 127#32).toInt = (n.val : ℤ) - 127 := by decide
  have e' := e ⟨num i, hn⟩
  dsimp only at e'
  show Ideal.exp2 (((lane i - 127#32).toInt : ℝ) : EReal) = _
  rw [lane_apply, e']
  show ((Real.rpow 2 _ : ℝ) : EReal) = _
  congr 1
  exact Real.rpow_intCast 2 _

/-! ## The field -/

/-- The float of exponent field `n`. -/
abbrev pat (n : ℕ) : EReal := Ideal.ofBits .f32 (BitVec.ofNat 32 n <<< (23#32))

theorem pat_zero : pat 0 = 0 := by simp [pat, Ideal.ofBits, Ideal.ieee]
theorem pat_pos (n : ℕ) (h0 : 1 ≤ n) (h1 : n ≤ 254) : pat n = (((2 : ℝ) ^ ((n : ℤ) - 127) : ℝ) : EReal) := ofBits_field n h0 h1

theorem toInt_small : ∀ n : Fin 256, (BitVec.ofNat 32 n.val).toInt = (n.val : ℤ) := by decide

theorem picked_toInt (x : EReal) (i : S2x128.Idx) : (picked x i).toInt = if pat (num i) ≤ x then (num i : ℤ) else 0 := by
  have hn := num_lt i
  have e : picked x i = if pat (num i) ≤ x then lane i else 0#32 := by
    show (if BitVec.ofBool (decide (bitcastToFloat (F := Ideal) .f32 (shli lane (broadcast S2x128 23#32)) i ≤ x)) = 1 then lane i else 0#32) = _
    rw [pattern_apply]
    by_cases h : pat (num i) ≤ x
    · rw [if_pos h, decide_eq_true h]; rfl
    · rw [if_neg h, decide_eq_false h]; rfl
  rw [e]
  by_cases h : pat (num i) ≤ x
  · rw [if_pos h, if_pos h, lane_apply]; exact toInt_small ⟨num i, hn⟩
  · rw [if_neg h, if_neg h]; rfl

theorem toInt_maxsi (x y : BitVec 32) : (IntOp.maxsi x y).toInt = max x.toInt y.toInt := by
  unfold IntOp.maxsi
  rw [BitVec.slt_eq_decide]
  by_cases h : y.toInt < x.toInt
  · rw [if_pos (decide_eq_true h), max_eq_left h.le]
  · rw [if_neg (by simpa using h), max_eq_right (not_lt.1 h)]

instance : Subsingleton S1.Idx := ⟨fun i j => funext fun a => Fin.ext (by
  match a with
  | ⟨0, _⟩ => have hi : (i 0 : ℕ) < 1 := (i 0).isLt; have hj : (j 0 : ℕ) < 1 := (j 0).isLt; show (i 0 : ℕ) = (j 0 : ℕ); omega)⟩

theorem maxsi_fold (v : IVec S1x2x128 32) (j : S1.Idx) : ∃ S : Finset S1x2x128.Idx, (∀ i, i ∈ S)
    ∧ multiReductionI .maxsi [1, 2] S1 v 2147483648#32 reduces_S1x2x128_S1 rfl j = S.fold IntOp.maxsi 2147483648#32 v := by
  refine ⟨Finset.univ.filter fun i => reduces_S1x2x128_S1.drop i = j, fun i => ?_, ?_⟩
  · exact Finset.mem_filter.2 ⟨Finset.mem_univ i, Subsingleton.elim (α := S1.Idx) _ _⟩
  · exact multiReductionI_eq_fold IKind.maxsi v 2147483648#32 reduces_S1x2x128_S1 rfl j

theorem field_fold (x : EReal) : ∃ S : Finset S1x2x128.Idx, (∀ i, i ∈ S)
    ∧ field x = S.fold IntOp.maxsi 2147483648#32 fun j => picked x (Shape.reshapeEquiv shapeCasts_S2x128_S1x2x128 j) := by
  unfold field extractAt
  exact maxsi_fold (shapeCast S1x2x128 (picked x) shapeCasts_S2x128_S1x2x128) (Shape.reshapeEquiv shapeCasts_S1_S1x1x1 fun a => ⟨![0, 0, 0] a, inpos_S1x1x1_p0_0_0 a⟩)

theorem field_toInt (x : EReal) (c : ℤ) : (field x).toInt ≤ c ↔ -2147483648 ≤ c ∧ ∀ i, (picked x i).toInt ≤ c := by
  obtain ⟨S, hS, e⟩ := field_fold x
  have e1 := Finset.fold_hom (s := S) (op := IntOp.maxsi) (op' := max) (m := BitVec.toInt) (b := 2147483648#32)
    (f := fun j : S1x2x128.Idx => picked x (Shape.reshapeEquiv shapeCasts_S2x128_S1x2x128 j)) toInt_maxsi
  rw [e, ← e1, Finset.fold_max_le]
  refine and_congr (by simp) ⟨fun h i => ?_, fun h i _ => h _⟩
  have := h ((Shape.reshapeEquiv shapeCasts_S2x128_S1x2x128).symm i) (hS _)
  rwa [Equiv.apply_symm_apply] at this

/-- The field of `x` is the greatest number whose float is at most `x`. -/
theorem field_eq (x : EReal) (k : ℕ) (hk : k < 256) (h1 : pat k ≤ x) (h2 : ∀ n, n < 256 → pat n ≤ x → n ≤ k) : field x = BitVec.ofNat 32 k := by
  apply BitVec.eq_of_toInt_eq
  rw [toInt_small ⟨k, hk⟩]
  apply le_antisymm
  · rw [field_toInt]
    refine ⟨by omega, fun i => ?_⟩
    rw [picked_toInt]
    split
    · next h => exact_mod_cast h2 _ (num_lt i) h
    · exact_mod_cast Nat.zero_le k
  · have := ((field_toInt x (field x).toInt).1 le_rfl).2 (laneOf k hk)
    rw [picked_toInt, num_laneOf, if_pos h1] at this
    exact this

/-! ## The least power -/

theorem above_apply (x : EReal) (i : S2x128.Idx) :
    above x i = if x < (((2 : ℝ) ^ ((num i : ℤ) - 127) : ℝ) : EReal) then (((2 : ℝ) ^ ((num i : ℤ) - 127) : ℝ) : EReal) else ⊤ := by
  show (if BitVec.ofBool (decide (x < powers i)) = 1 then powers i else Ideal.ofBits .f32 0x7F800000#32) = _
  rw [powers_apply, ofBits_top]
  by_cases h : x < (((2 : ℝ) ^ ((num i : ℤ) - 127) : ℝ) : EReal)
  · rw [if_pos h, decide_eq_true h]; rfl
  · rw [if_neg h, decide_eq_false h]; rfl

theorem minimumf_fold (v : FVec Ideal S1x2x128 .f32) (j : S1.Idx) : ∃ S : Finset S1x2x128.Idx, (∀ i, i ∈ S)
    ∧ multiReduction (F := Ideal) .minimumf [1, 2] S1 v 0x7F800000#32 reduces_S1x2x128_S1 (.inl rfl) rfl j
      = S.fold (FloatOps.minimumf (F := Ideal) (φ := .f32)) (FloatOps.ofBits (F := Ideal) .f32 0x7F800000#32) v := by
  refine ⟨Finset.univ.filter fun i => reduces_S1x2x128_S1.drop i = j, fun i => ?_, ?_⟩
  · exact Finset.mem_filter.2 ⟨Finset.mem_univ i, Subsingleton.elim (α := S1.Idx) _ _⟩
  · exact multiReduction_minimumf_eq_fold (F := Ideal) v 0x7F800000#32 reduces_S1x2x128_S1 (.inl rfl) rfl j

theorem least_fold (x : EReal) : ∃ S : Finset S1x2x128.Idx, (∀ i, i ∈ S)
    ∧ least x = S.fold min (Ideal.ofBits .f32 0x7F800000#32) fun j => above x (Shape.reshapeEquiv shapeCasts_S2x128_S1x2x128 j) := by
  unfold least extractAt
  exact minimumf_fold (shapeCast S1x2x128 (above x) shapeCasts_S2x128_S1x2x128) (Shape.reshapeEquiv shapeCasts_S1_S1x1x1 fun a => ⟨![0, 0, 0] a, inpos_S1x1x1_p0_0_0 a⟩)

theorem le_least (x c : EReal) : c ≤ least x ↔ ∀ i, c ≤ above x i := by
  obtain ⟨S, hS, e⟩ := least_fold x
  rw [e, Finset.le_fold_min, ofBits_top]
  refine ⟨fun h i => ?_, fun h => ⟨le_top, fun i _ => h _⟩⟩
  have := h.2 ((Shape.reshapeEquiv shapeCasts_S2x128_S1x2x128).symm i) (hS _)
  rwa [Equiv.apply_symm_apply] at this

theorem pow_le (a b : ℤ) : (2 : ℝ) ^ a ≤ (2 : ℝ) ^ b ↔ a ≤ b := zpow_le_zpow_iff_right₀ (by norm_num)
theorem pow_lt (a b : ℤ) : (2 : ℝ) ^ a < (2 : ℝ) ^ b ↔ a < b := zpow_lt_zpow_iff_right₀ (by norm_num)

theorem least_eq (r : ℝ) (k : ℕ) (hk : k < 255) (h1 : (2 : ℝ) ^ ((k : ℤ) - 127) ≤ r) (h2 : r < (2 : ℝ) ^ ((k : ℤ) - 126)) :
    least (r : EReal) = (((2 : ℝ) ^ ((k : ℤ) - 126) : ℝ) : EReal) := by
  apply le_antisymm
  · have := (le_least (r : EReal) _).1 le_rfl (laneOf (k + 1) (by omega))
    rw [above_apply, num_laneOf] at this
    have e : ((k + 1 : ℕ) : ℤ) - 127 = (k : ℤ) - 126 := by push_cast; omega
    rw [e, if_pos (by exact_mod_cast h2)] at this
    exact this
  · rw [le_least]
    intro i
    rw [above_apply]
    split
    · next h =>
      have h' : r < (2 : ℝ) ^ ((num i : ℤ) - 127) := by exact_mod_cast h
      have := (pow_lt _ _).1 (h1.trans_lt h')
      rw [EReal.coe_le_coe_iff, pow_le]
      omega
    · exact le_top

/-! ## The scales agree -/

theorem sel_true {A : Type} (a b : A) : Scalar.select (1#1) a b = a := if_pos rfl
theorem sel_false {A : Type} (a b : A) : Scalar.select (0#1) a b = b := if_neg (by decide)

theorem expo_special (a x : EReal) (h : field x = 0#32) : expo a x = 0#32 := by
  unfold expo
  rw [h]
  have e : ∀ b : BitVec 1, Scalar.ori (Scalar.ori (Scalar.cmpi .eq 0#32 0#32) (Scalar.cmpi .eq 0#32 255#32)) b = 1#1 := by decide
  rw [e, sel_true]

theorem expo_plain (a x : EReal) (k : ℕ) (h0 : 1 ≤ k) (h1 : k ≤ 252) (h : field x = BitVec.ofNat 32 k) (ha : a ≠ 0) :
    expo a x = BitVec.ofNat 32 k - 126#32 := by
  have e1 : ∀ k : Fin 253, 1 ≤ k.val → Scalar.ori (Scalar.ori (Scalar.cmpi .eq (BitVec.ofNat 32 k.val) 0#32) (Scalar.cmpi .eq (BitVec.ofNat 32 k.val) 255#32)) 0#1 = 0#1 := by decide
  have e2 : Scalar.cmpf (F := Ideal) .oeq a (Scalar.ofBits .f32 0x00000000#32) = 0#1 := by
    show BitVec.ofBool (decide (a = Ideal.ofBits .f32 0x00000000#32)) = 0#1
    rw [ofBits_zero, decide_eq_false ha]; rfl
  unfold expo
  rw [h, e2, e1 ⟨k, by omega⟩ h0, sel_false]
  rfl

theorem rScale_special (a x : EReal) (h : x < (((2 : ℝ) ^ (-126 : ℤ) : ℝ) : EReal)) : rScale a x = 1 := by
  have e2 : Scalar.cmpf (F := Ideal) .olt x (Scalar.ofBits .f32 0x00800000#32) = 1#1 := by
    show BitVec.ofBool (decide (x < Ideal.ofBits .f32 0x00800000#32)) = 1#1
    rw [ofBits_tiny, decide_eq_true h]; rfl
  have e : ∀ b : BitVec 1, Scalar.ori b 1#1 = 1#1 := by decide
  unfold rScale
  rw [e2, e, sel_true]
  exact ofBits_one

theorem rScale_plain (a x : EReal) (h : ¬ x < (((2 : ℝ) ^ (-126 : ℤ) : ℝ) : EReal)) (ha : a ≠ 0) : rScale a x = least x := by
  have e1 : Scalar.cmpf (F := Ideal) .oeq a (Scalar.ofBits .f32 0x00000000#32) = 0#1 := by
    show BitVec.ofBool (decide (a = Ideal.ofBits .f32 0x00000000#32)) = 0#1
    rw [ofBits_zero, decide_eq_false ha]; rfl
  have e2 : Scalar.cmpf (F := Ideal) .olt x (Scalar.ofBits .f32 0x00800000#32) = 0#1 := by
    show BitVec.ofBool (decide (x < Ideal.ofBits .f32 0x00800000#32)) = 0#1
    rw [ofBits_tiny, decide_eq_false h]; rfl
  have e : Scalar.ori (0#1) 0#1 = 0#1 := by decide
  unfold rScale
  rw [e1, e2, e, sel_false]

theorem kScale_of (a x : EReal) (k : ℕ) (h1 : k ≤ 252) (h : expo a x = BitVec.ofNat 32 k - 126#32) :
    kScale a x = (((2 : ℝ) ^ ((k : ℤ) - 126) : ℝ) : EReal) ∧ kInv a x = (((2 : ℝ) ^ (126 - (k : ℤ)) : ℝ) : EReal) := by
  have e1 : ∀ k : Fin 253, Scalar.shli (Scalar.addi 127#32 (BitVec.ofNat 32 k.val - 126#32)) 23#32 = BitVec.ofNat 32 (k.val + 1) <<< (23#32) := by decide
  have e2 : ∀ k : Fin 253, Scalar.shli (Scalar.subi 127#32 (BitVec.ofNat 32 k.val - 126#32)) 23#32 = BitVec.ofNat 32 (253 - k.val) <<< (23#32) := by decide
  unfold kScale kInv
  rw [h, e1 ⟨k, by omega⟩, e2 ⟨k, by omega⟩]
  constructor
  · refine (ofBits_field (k + 1) (by omega) (by omega)).trans ?_
    congr 2; push_cast; omega
  · refine (ofBits_field (253 - k) (by omega) (by omega)).trans ?_
    congr 2; omega

/-- The kernel's scale is the reference's, and its inverse the reciprocal: for a ratio from zero up to `2 ^ 126`. -/
theorem scales (a : EReal) (r : ℝ) (h0 : 0 ≤ r) (h1 : r < (2 : ℝ) ^ (126 : ℤ)) (ha : a = 0 → r < (2 : ℝ) ^ (-126 : ℤ)) :
    kScale a (r : EReal) = rScale a (r : EReal) ∧ kInv a (r : EReal) = Ideal.div 1 (rScale a (r : EReal)) := by
  by_cases ht : r < (2 : ℝ) ^ (-126 : ℤ)
  · have hf : field (r : EReal) = BitVec.ofNat 32 0 := by
      refine field_eq _ 0 (by decide) (by rw [pat_zero]; exact_mod_cast h0) fun n hn hp => ?_
      by_contra hc
      by_cases h255 : n = 255
      · subst h255
        have : (⊤ : EReal) ≤ (r : EReal) := by rw [← ofBits_field_top]; exact hp
        exact absurd (top_le_iff.1 this) (EReal.coe_ne_top r)
      · rw [pat_pos n (by omega) (by omega), EReal.coe_le_coe_iff] at hp
        have := (pow_lt _ _).1 (hp.trans_lt ht)
        omega
    have he := expo_special a (r : EReal) hf
    rw [rScale_special a (r : EReal) (by exact_mod_cast ht)]
    have h2 := kScale_of a (r : EReal) 126 (by decide) (by rw [he]; decide)
    rw [h2.1, h2.2]
    constructor
    · norm_num
    · rw [show (1 : EReal) = ((1 : ℝ) : EReal) from rfl, Ideal.div_coe one_ne_zero]
      norm_num
  · have hp : 0 < r := lt_of_lt_of_le (by positivity) (not_lt.1 ht)
    obtain ⟨m, hm1, hm2⟩ := exists_mem_Ico_zpow hp (by norm_num : (1 : ℝ) < 2)
    have hm3 : m < 126 := (pow_lt _ _).1 (hm1.trans_lt h1)
    have hm4 : -126 < m + 1 := (pow_lt _ _).1 ((not_lt.1 ht).trans_lt hm2)
    obtain ⟨k, hk⟩ : ∃ k : ℕ, (k : ℤ) = m + 127 := ⟨(m + 127).toNat, by omega⟩
    have g1 : (2 : ℝ) ^ ((k : ℤ) - 127) ≤ r := by rw [hk]; simpa using hm1
    have g2 : r < (2 : ℝ) ^ ((k : ℤ) - 126) := by rw [hk, show m + 127 - 126 = m + 1 by omega]; exact hm2
    have hf : field (r : EReal) = BitVec.ofNat 32 k := by
      refine field_eq _ k (by omega) (by rw [pat_pos k (by omega) (by omega)]; exact_mod_cast g1) fun n hn hp => ?_
      by_contra hc
      by_cases h255 : n = 255
      · subst h255
        have : (⊤ : EReal) ≤ (r : EReal) := by rw [← ofBits_field_top]; exact hp
        exact absurd (top_le_iff.1 this) (EReal.coe_ne_top r)
      · rw [pat_pos n (by omega) (by omega), EReal.coe_le_coe_iff] at hp
        have := (pow_lt _ _).1 (hp.trans_lt g2)
        omega
    have hane : a ≠ 0 := fun h => ht (ha h)
    have he := expo_plain a (r : EReal) k (by omega) (by omega) hf hane
    have h2 := kScale_of a (r : EReal) k (by omega) he
    rw [rScale_plain a (r : EReal) (by exact_mod_cast ht) hane, least_eq r k (by omega) g1 g2, h2.1, h2.2]
    have hz : (1 : ℝ) / (2 : ℝ) ^ ((k : ℤ) - 126) = (2 : ℝ) ^ (126 - (k : ℤ)) := by rw [one_div, ← zpow_neg, neg_sub]
    refine ⟨rfl, ?_⟩
    rw [Ideal.div_coe (zpow_ne_zero _ (by norm_num)), one_mul, hz]

end Cert.Value

end
-- ==== Proof.ValueAmax.lean ====
/-
  Hand-written. The greatest magnitudes over the reals: the kernel's running maxima, slab by slab and lane by lane, end at
  the one greatest magnitude the reference takes, for the weights and for the gradient.
-/
module

public import proofs.«01_k».proof.Proof.ValueScale

@[expose] public section

noncomputable section

namespace Cert.Value

open Idealize.ShloMosaic
open Cert.Kernel (S1 S1x1x1 S2176x1152 S544x1152 S68x8x1152 S8x1152 S1x8x1152 S6144x1152 S512x1152 S32x16x1152 S16x1152 S1x16x1152)
open Cert.Kernel.Gen Cert.Kernel.Hand

/-- The magnitude of a number. -/
abbrev mag (x : EReal) : EReal := max x (-x)

theorem mag_nonneg (x : EReal) : 0 ≤ mag x := by
  rcases le_total 0 x with h | h
  · exact h.trans (le_max_left _ _)
  · exact (EReal.neg_nonneg.2 h).trans (le_max_right _ _)

/-- A maximum over some axes is at most `c` when each element it folds is. -/
theorem reduce_le {s t : Shape} {axes : List (Fin s.rank)} {φ : FTy} (src : FVec Ideal s φ) (acc : BitVec φ.bits) (h : s.Reduces axes t)
    (hφ : FKind.Formats φ) (hacc : acc = FKind.maximumf.neutral φ hφ) (hb : Ideal.ofBits φ acc = ⊥) (j : t.Idx) (c : EReal) :
    multiReduction (F := Ideal) .maximumf axes t src acc h hφ hacc j ≤ c ↔ ∀ i, h.drop i = j → src i ≤ c := by
  have e := multiReduction_maximumf_eq_fold (F := Ideal) src acc h hφ hacc j
  have e2 : (Finset.univ.filter fun i => h.drop i = j).fold (FloatOps.maximumf (F := Ideal) (φ := φ)) (FloatOps.ofBits φ acc) src
      = (Finset.univ.filter fun i => h.drop i = j).fold max (Ideal.ofBits φ acc) src := rfl
  rw [e, e2, Finset.fold_max_le, hb]
  refine ⟨fun H i hi => H.2 i (Finset.mem_filter.2 ⟨Finset.mem_univ _, hi⟩), fun H => ⟨bot_le, fun i hi => H i (Finset.mem_filter.1 hi).2⟩⟩

/-- A property of every element survives regrouping. -/
theorem shapeCast_forall {s t : Shape} {A : Type} (x : s.Idx → A) (h : s.ShapeCasts t) (p : A → Prop) : (∀ j, p (shapeCast t x h j)) ↔ ∀ i, p (x i) := by
  refine ⟨fun H i => ?_, fun H j => H _⟩
  have := H ((Shape.reshapeEquiv h).symm i)
  unfold shapeCast at this
  rwa [Equiv.apply_symm_apply] at this

/-! ## The weights -/

theorem pay5_le (a : FVec Ideal S8x1152 .f32) (w : FVec Ideal S544x1152 .f32) (c : EReal) :
    (∀ i, k0_pay5 (F := Ideal) a w i ≤ c) ↔ (∀ i, a i ≤ c) ∧ ∀ y, mag (w y) ≤ c := by
  have e : ∀ i, k0_pay5 (F := Ideal) a w i ≤ c ↔ a i ≤ c ∧ ∀ z, reduces_S68x8x1152_S8x1152.drop z = i → shapeCast S68x8x1152 (fun y => mag (w y)) shapeCasts_S544x1152_S68x8x1152 z ≤ c := by
    intro i
    rw [← reduce_le (φ := .f32) (shapeCast S68x8x1152 (fun y => mag (w y)) shapeCasts_S544x1152_S68x8x1152) 0xFF800000#32 reduces_S68x8x1152_S8x1152 (.inl rfl) rfl ofBits_bot i c]
    exact max_le_iff
  rw [← shapeCast_forall (fun y => mag (w y)) shapeCasts_S544x1152_S68x8x1152 (· ≤ c)]
  refine ⟨fun H => ⟨fun i => ((e i).1 (H i)).1, fun z => ((e _).1 (H _)).2 z rfl⟩, fun H i => (e i).2 ⟨H.1 i, fun z _ => H.2 z⟩⟩

theorem pay6_le (v : FVec Ideal S8x1152 .f32) (c : EReal) : k0_pay6 (F := Ideal) v ≤ c ↔ ∀ i, v i ≤ c := by
  rw [← shapeCast_forall v shapeCasts_S8x1152_S1x8x1152 (· ≤ c)]
  have e := reduce_le (φ := .f32) (shapeCast S1x8x1152 v shapeCasts_S8x1152_S1x8x1152) 0xFF800000#32 reduces_S1x8x1152_S1 (.inl rfl) rfl ofBits_bot
    (Shape.reshapeEquiv shapeCasts_S1_S1x1x1 fun a => ⟨![0, 0, 0] a, inpos_S1x1x1_p0_0_0 a⟩) c
  refine Iff.trans e ⟨fun H i => H i (Subsingleton.elim (α := S1.Idx) _ _), fun H i _ => H i⟩

theorem acc1_le (f : S2176x1152.Idx → EReal) (c : EReal) : ∀ k ≤ 4, (∀ i, acc1 (F := Ideal) f k i ≤ c) ↔ 0 ≤ c ∧ ∀ j : Fin 4, j.val < k → ∀ y, mag (blk f (rW j) y) ≤ c
  | 0, _ => by
    have e : ∀ i, acc1 (F := Ideal) f 0 i = 0 := fun i => ofBits_zero
    refine ⟨fun H => ⟨?_, fun j hj => absurd hj (Nat.not_lt_zero _)⟩, fun H i => by rw [e]; exact H.1⟩
    have := H (fun a => ⟨0, by revert a; decide⟩)
    rwa [e] at this
  | k + 1, hk => by
    have hk' : k < 4 := hk
    have e : acc1 (F := Ideal) f (k + 1) = k0_pay5 (acc1 f k) (blk f (rW ⟨k, hk'⟩)) := dif_pos hk'
    rw [e, pay5_le, acc1_le f c k (by omega)]
    refine ⟨fun H => ⟨H.1.1, fun j hj y => ?_⟩, fun H => ⟨⟨H.1, fun j hj => H.2 j (by omega)⟩, H.2 ⟨k, hk'⟩ (Nat.lt_succ_self k)⟩⟩
    by_cases hjk : j.val < k
    · exact H.1.2 j hjk y
    · have : j = ⟨k, hk'⟩ := Fin.ext (by show j.val = k; omega)
      subst this
      exact H.2 y

/-- Every element of the weights lies in one slab. -/
theorem slab_of (x : S2176x1152.Idx) : ∃ (j : Fin 4) (y : (rW j).shape.Idx), (rW j).emb y = x := by
  have h0 : (x 0 : ℕ) < 2176 := (x 0).isLt
  refine ⟨⟨(x 0 : ℕ) / 544, by omega⟩, ValueIdx.ix2 (⟨(x 0 : ℕ) % 544, Nat.mod_lt _ (by decide)⟩ : Fin 544) (x 1 : Fin 1152), funext fun a => Fin.ext ?_⟩
  match a with
  | ⟨0, _⟩ => show 544 * ((x 0 : ℕ) / 544) + 1 * ((x 0 : ℕ) % 544) = (x 0 : ℕ); omega
  | ⟨1, _⟩ => show 0 + 1 * (x 1 : ℕ) = (x 1 : ℕ); omega

theorem wAmax_le (f : S2176x1152.Idx → EReal) (c : EReal) : wAmax (F := Ideal) f ≤ c ↔ ∀ x, mag (f x) ≤ c := by
  unfold wAmax
  rw [pay6_le, acc1_le f c 4 le_rfl]
  refine ⟨fun H x => ?_, fun H => ⟨(mag_nonneg _).trans (H (fun a => ⟨0, by revert a; decide⟩)), fun j _ y => H _⟩⟩
  obtain ⟨j, y, hy⟩ := slab_of x
  rw [← hy]
  exact H.2 j j.isLt y

/-! ## The gradient -/

theorem pay12_le (a : FVec Ideal S16x1152 .bf16) (w : FVec Ideal S512x1152 .bf16) (c : EReal) :
    (∀ i, k0_pay12 (F := Ideal) a w i ≤ c) ↔ (∀ i, a i ≤ c) ∧ ∀ y, mag (w y) ≤ c := by
  have e : ∀ i, k0_pay12 (F := Ideal) a w i ≤ c ↔ a i ≤ c ∧ ∀ z, reduces_S32x16x1152_S16x1152.drop z = i → shapeCast S32x16x1152 (fun y => mag (w y)) shapeCasts_S512x1152_S32x16x1152 z ≤ c := by
    intro i
    rw [← reduce_le (φ := .bf16) (shapeCast S32x16x1152 (fun y => mag (w y)) shapeCasts_S512x1152_S32x16x1152) 0xFF80#16 reduces_S32x16x1152_S16x1152 (.inr rfl) rfl ofBits_bot16 i c]
    exact max_le_iff
  rw [← shapeCast_forall (fun y => mag (w y)) shapeCasts_S512x1152_S32x16x1152 (· ≤ c)]
  refine ⟨fun H => ⟨fun i => ((e i).1 (H i)).1, fun z => ((e _).1 (H _)).2 z rfl⟩, fun H i => (e i).2 ⟨H.1 i, fun z _ => H.2 z⟩⟩

/-- The gradient's greatest magnitude, as the kernel reads it out. -/
def dTop (v : FVec Ideal S1 .f32) : EReal := extractAt ![0, 0, 0] (shapeCast S1x1x1 v shapeCasts_S1_S1x1x1) inpos_S1x1x1_p0_0_0

theorem pay13_le (v : FVec Ideal S16x1152 .bf16) (c : EReal) : dTop (k0_pay13 (F := Ideal) v) ≤ c ↔ ∀ i, v i ≤ c := by
  rw [← shapeCast_forall v shapeCasts_S16x1152_S1x16x1152 (· ≤ c)]
  have e := reduce_le (φ := .f32) (shapeCast S1x16x1152 v shapeCasts_S16x1152_S1x16x1152) 0xFF800000#32 reduces_S1x16x1152_S1 (.inl rfl) rfl ofBits_bot
    (Shape.reshapeEquiv shapeCasts_S1_S1x1x1 fun a => ⟨![0, 0, 0] a, inpos_S1x1x1_p0_0_0 a⟩) c
  refine Iff.trans e ⟨fun H i => H i (Subsingleton.elim (α := S1.Idx) _ _), fun H i _ => H i⟩

theorem acc3_le (f : S6144x1152.Idx → EReal) (c : EReal) : ∀ k ≤ 12, (∀ i, acc3 (F := Ideal) f k i ≤ c) ↔ 0 ≤ c ∧ ∀ j : Fin 12, j.val < k → ∀ y, mag (blk f (rD j) y) ≤ c
  | 0, _ => by
    have e : ∀ i, acc3 (F := Ideal) f 0 i = 0 := fun i => ofBits_zero16
    refine ⟨fun H => ⟨?_, fun j hj => absurd hj (Nat.not_lt_zero _)⟩, fun H i => by rw [e]; exact H.1⟩
    have := H (fun a => ⟨0, by revert a; decide⟩)
    rwa [e] at this
  | k + 1, hk => by
    have hk' : k < 12 := hk
    have e : acc3 (F := Ideal) f (k + 1) = k0_pay12 (acc3 f k) (blk f (rD ⟨k, hk'⟩)) := dif_pos hk'
    rw [e, pay12_le, acc3_le f c k (by omega)]
    refine ⟨fun H => ⟨H.1.1, fun j hj y => ?_⟩, fun H => ⟨⟨H.1, fun j hj => H.2 j (by omega)⟩, H.2 ⟨k, hk'⟩ (Nat.lt_succ_self k)⟩⟩
    by_cases hjk : j.val < k
    · exact H.1.2 j hjk y
    · have : j = ⟨k, hk'⟩ := Fin.ext (by show j.val = k; omega)
      subst this
      exact H.2 y

/-- Every element of the gradient's rows lies in one chunk. -/
theorem chunk_of (x : S6144x1152.Idx) : ∃ (j : Fin 12) (y : (rD j).shape.Idx), (rD j).emb y = x := by
  have h0 : (x 0 : ℕ) < 6144 := (x 0).isLt
  refine ⟨⟨(x 0 : ℕ) / 512, by omega⟩, ValueIdx.ix2 (⟨(x 0 : ℕ) % 512, Nat.mod_lt _ (by decide)⟩ : Fin 512) (x 1 : Fin 1152), funext fun a => Fin.ext ?_⟩
  match a with
  | ⟨0, _⟩ => show 512 * ((x 0 : ℕ) / 512) + 1 * ((x 0 : ℕ) % 512) = (x 0 : ℕ); omega
  | ⟨1, _⟩ => show 0 + 1 * (x 1 : ℕ) = (x 1 : ℕ); omega

theorem dAmax_le (f : S6144x1152.Idx → EReal) (c : EReal) : dTop (dAmax (F := Ideal) f) ≤ c ↔ ∀ x, mag (f x) ≤ c := by
  unfold dAmax
  rw [pay13_le, acc3_le f c 12 le_rfl]
  refine ⟨fun H x => ?_, fun H => ⟨(mag_nonneg _).trans (H (fun a => ⟨0, by revert a; decide⟩)), fun j _ y => H _⟩⟩
  obtain ⟨j, y, hy⟩ := chunk_of x
  rw [← hy]
  exact H.2 j j.isLt y

end Cert.Value

end
-- ==== Proof.ValueCodes.lean ====
/-
  Hand-written. The scales and the codes over the reals: for entries no larger than the greatest float, each of the kernel's
  scales is the reference's, and each code is the reference's code of the same entry.
-/
module

public import proofs.«01_k».proof.Proof.ValueAmax
public import proofs.«01_k».proof.Proof.KernelIdealRun
public import proofs.«01_k».proof.Defs
public import Idealize.ShloMosaic.Lib.Pipeline.Value

@[expose] public section

noncomputable section

namespace Cert.Value

open Idealize.ShloMosaic
open Cert.Kernel (S1 S1x1x1 S2176x1152 S6144x1152 S3x2048x1152)
open Cert.ReferenceIdeal (S1x3x2048x1152 S1x2176x1152 S1x1x1x1)
open Cert.Kernel.Hand Cert.KernelIdeal.Hand

/-! ## The reference's greatest magnitudes -/

/-- The weights' greatest magnitude, as the reference takes it. -/
def wRef (w : S2176x1152.Idx → EReal) : EReal :=
  extractAt ![0, 0, 0] (Cert.ReferenceIdeal.Gen.k0_pay6 (F := Ideal) w) Cert.ReferenceIdeal.Gen.inpos_S1x1x1_p0_0_0

/-- The gradient's, likewise. -/
def dRef (d : S3x2048x1152.Idx → EReal) : EReal :=
  extractAt ![0, 0, 0, 0] (shapeCast S1x1x1x1 (multiReduction (F := Ideal) (φ := .f32) .maximumf [1, 2, 3] S1 (shapeCast S1x3x2048x1152 (fun i => mag (d i))
    Cert.ReferenceIdeal.Gen.shapeCasts_S3x2048x1152_S1x3x2048x1152) 0xFF800000#32 Cert.ReferenceIdeal.Gen.reduces_S1x3x2048x1152_S1 (.inl rfl) rfl)
    Cert.ReferenceIdeal.Gen.shapeCasts_S1_S1x1x1x1) Cert.ReferenceIdeal.Gen.inpos_S1x1x1x1_p0_0_0_0

theorem wRef_le (w : S2176x1152.Idx → EReal) (c : EReal) : wRef w ≤ c ↔ ∀ x, mag (w x) ≤ c := by
  rw [← shapeCast_forall (fun i => mag (w i)) Cert.ReferenceIdeal.Gen.shapeCasts_S2176x1152_S1x2176x1152 (· ≤ c)]
  have e := reduce_le (φ := .f32) (shapeCast S1x2176x1152 (fun i => mag (w i)) Cert.ReferenceIdeal.Gen.shapeCasts_S2176x1152_S1x2176x1152) 0xFF800000#32
    Cert.ReferenceIdeal.Gen.reduces_S1x2176x1152_S1 (.inl rfl) rfl ofBits_bot
    (Shape.reshapeEquiv Cert.ReferenceIdeal.Gen.shapeCasts_S1_S1x1x1 fun a => ⟨![0, 0, 0] a, Cert.ReferenceIdeal.Gen.inpos_S1x1x1_p0_0_0 a⟩) c
  refine Iff.trans e ⟨fun H i => H i (Subsingleton.elim (α := S1.Idx) _ _), fun H i _ => H i⟩

theorem dRef_le (d : S3x2048x1152.Idx → EReal) (c : EReal) : dRef d ≤ c ↔ ∀ x, mag (d x) ≤ c := by
  rw [← shapeCast_forall (fun i => mag (d i)) Cert.ReferenceIdeal.Gen.shapeCasts_S3x2048x1152_S1x3x2048x1152 (· ≤ c)]
  have e := reduce_le (φ := .f32) (shapeCast S1x3x2048x1152 (fun i => mag (d i)) Cert.ReferenceIdeal.Gen.shapeCasts_S3x2048x1152_S1x3x2048x1152) 0xFF800000#32
    Cert.ReferenceIdeal.Gen.reduces_S1x3x2048x1152_S1 (.inl rfl) rfl ofBits_bot
    (Shape.reshapeEquiv Cert.ReferenceIdeal.Gen.shapeCasts_S1_S1x1x1x1 fun a => ⟨![0, 0, 0, 0] a, Cert.ReferenceIdeal.Gen.inpos_S1x1x1x1_p0_0_0_0 a⟩) c
  refine Iff.trans e ⟨fun H i => H i (Subsingleton.elim (α := S1.Idx) _ _), fun H i _ => H i⟩

theorem wTop_eq (w : S2176x1152.Idx → EReal) : wAmax (F := Ideal) w = wRef w :=
  eq_of_forall_ge_iff fun c => (wAmax_le w c).trans (wRef_le w c).symm

theorem dTop_eq (d : S3x2048x1152.Idx → EReal) : dTop (dAmax (F := Ideal) (flat (F := Ideal) d)) = dRef d :=
  eq_of_forall_ge_iff fun c => (dAmax_le _ c).trans ((shapeCast_forall d Cert.Kernel.Gen.shapeCasts_S3x2048x1152_S6144x1152 (fun x => mag x ≤ c)).trans (dRef_le d c).symm)

/-! ## Entries no larger than the greatest float -/

/-- The greatest float. -/
abbrev most : EReal := Ideal.ofBits .f32 0x7F7FFFFF#32
/-- The reciprocals of the two formats' greatest codes, as floats. -/
abbrev cW : EReal := Ideal.ofBits .f32 0x3B124925#32
abbrev cD : EReal := Ideal.ofBits .f32 0x37924925#32

theorem most_le : most ≤ (((2 : ℝ) ^ (128 : ℤ) : ℝ) : EReal) := by
  have e : most = ((1 * (2 ^ 23 + 8388607 : ℕ) * (2 : ℝ) ^ ((254 : ℤ) - 127 - 23) : ℝ) : EReal) := by
    simp [most, Ideal.ofBits, Ideal.ieee, -EReal.coe_mul]
  rw [e, EReal.coe_le_coe_iff]
  norm_num

theorem cW_real : ∃ r : ℝ, cW = (r : EReal) ∧ 0 ≤ r ∧ r ≤ 1 / 8 := by
  refine ⟨1 * (2 ^ 23 + 1198373 : ℕ) * (2 : ℝ) ^ ((118 : ℤ) - 127 - 23), ?_, ?_, ?_⟩
  · simp [cW, Ideal.ofBits, Ideal.ieee, -EReal.coe_mul]
  · positivity
  · norm_num

theorem cD_real : ∃ r : ℝ, cD = (r : EReal) ∧ 0 ≤ r ∧ r ≤ 1 / 8 := by
  refine ⟨1 * (2 ^ 23 + 1198373 : ℕ) * (2 : ℝ) ^ ((111 : ℤ) - 127 - 23), ?_, ?_, ?_⟩
  · simp [cD, Ideal.ofBits, Ideal.ieee, -EReal.coe_mul]
  · positivity
  · norm_num

/-- For such entries the ratio of the greatest magnitude stays in the scale's range, so the two scales agree. -/
theorem scales_of (a c : EReal) (hc : ∃ r : ℝ, c = (r : EReal) ∧ 0 ≤ r ∧ r ≤ 1 / 8) (h0 : 0 ≤ a) (h1 : a ≤ most) :
    kScale a (a * c) = rScale a (a * c) ∧ kInv a (a * c) = Ideal.div 1 (rScale a (a * c)) := by
  obtain ⟨r, rfl, hr0, hr1⟩ := hc
  have h2 := h1.trans most_le
  have hbot : a ≠ ⊥ := fun h => by rw [h] at h0; exact absurd h0 (by simp)
  have htop : a ≠ ⊤ := fun h => by rw [h] at h2; exact absurd (top_le_iff.1 h2) (EReal.coe_ne_top _)
  lift a to ℝ using ⟨htop, hbot⟩
  have g0 : 0 ≤ a := by exact_mod_cast h0
  have g2 : a ≤ (2 : ℝ) ^ (128 : ℤ) := by exact_mod_cast h2
  rw [← EReal.coe_mul]
  refine scales (a : EReal) (a * r) (mul_nonneg g0 hr0) ?_ fun h => ?_
  · have := mul_le_mul g2 hr1 hr0 (by positivity)
    refine this.trans_lt ?_
    norm_num
  · have : a = 0 := by exact_mod_cast h
    rw [this, zero_mul]
    positivity

/-- What the precondition says. -/
theorem finite_of [Cert.Pre_finite.Facts] (d : S3x2048x1152.Idx → EReal) (w : S2176x1152.Idx → EReal)
    (h : Cert.Pre_finite.fn (F := Ideal) d w = fun _ => 1#1) : (∀ i, mag (d i) ≤ most) ∧ ∀ i, mag (w i) ≤ most := by
  have e : ∀ a b : BitVec 1, IntOp.andi a b = 1#1 → a = 1#1 ∧ b = 1#1 := by decide
  have e1 : ∀ (a b : IVec Cert.Pre_finite.S_ 1), andi a b = (fun _ => 1#1) → ∀ i, a i = 1#1 ∧ b i = 1#1 := fun a b hab i => e _ _ (congrFun hab i)
  have e2 : ∀ (x : FVec Ideal Cert.Pre_finite.S_ .f32) (i), cmpf (F := Ideal) .ole x (constant Cert.Pre_finite.S_ .f32 0x7F7FFFFF#32) i = 1#1 → x i ≤ most := fun x i hx => by
    by_contra hc
    have e3 : cmpf (F := Ideal) .ole x (constant Cert.Pre_finite.S_ .f32 0x7F7FFFFF#32) i = BitVec.ofBool (decide (x i ≤ most)) := rfl
    rw [e3, decide_eq_false hc] at hx
    exact absurd hx (by decide)
  unfold Cert.Pre_finite.fn at h
  dsimp only at h
  obtain ⟨h1, h2⟩ := e1 _ _ h (fun a => a.elim0)
  have k1 := e2 _ _ h1
  have k2 := e2 _ _ h2
  rw [Host.reduce_eq_fold] at k1 k2
  have k1 := (Finset.fold_max_le _).1 k1
  have k2 := (Finset.fold_max_le _).1 k2
  exact ⟨fun i => k1.2 i (Finset.mem_filter.2 ⟨Finset.mem_univ _, funext fun a => a.elim0⟩), fun i => k2.2 i (Finset.mem_filter.2 ⟨Finset.mem_univ _, funext fun a => a.elim0⟩)⟩

end Cert.Value

end
-- ==== Proof.ValueResult.lean ====
/-
  Hand-written. The five results over the reals, the kernel's equal to the reference's: both scales, both arrays of codes,
  and the product of the codes, block by block against whole.
-/
module

public import proofs.«01_k».proof.Proof.ValueCodes
public import Idealize.ShloMosaic.Lib.MatmulPlain

@[expose] public section

noncomputable section

namespace Cert.Value

open Idealize.ShloMosaic
open Cert.Kernel (S1 S1x1x1 S544x1152 S2176x1152 S6144x1152 S3x2048x1152 S512x1152 S512x2176 S64x8x2176 S768x8x2176 S3x2048x2176)
open Cert.ReferenceIdeal (S6144x2176)
open Cert.Kernel.Hand Cert.KernelIdeal.Hand
open scoped BigOperators

/-! ## The scales -/

theorem timesW (a : EReal) : Scalar.mulf (F := Ideal) (φ := .f32) a (Scalar.ofBits (F := Ideal) .f32 0x3B124925#32) = a * cW := rfl
theorem timesD (a : EReal) : Scalar.mulf (F := Ideal) (φ := .f32) a (Scalar.ofBits (F := Ideal) .f32 0x37924925#32) = a * cD := rfl
theorem times (a b : EReal) : Scalar.mulf (F := Ideal) (φ := .f32) a b = a * b := rfl

theorem pay7_form (v : FVec Ideal Cert.Kernel.S8x1152 .f32) :
    Cert.Kernel.Gen.k0_pay7 (F := Ideal) v = Scalar.mulf (F := Ideal) (φ := .f32) (Cert.Kernel.Gen.k0_pay6 (F := Ideal) v) (Scalar.ofBits (F := Ideal) .f32 0x3B124925#32) := by
  unfold Cert.Kernel.Gen.k0_pay7
  dsimp only

theorem pay9_form (a x : Ideal .f32) : Cert.Kernel.Gen.k0_pay9 (F := Ideal) a x Cert.Kernel.Gen.k0_pay8 lanes = kScale a x := by
  unfold Cert.Kernel.Gen.k0_pay9 Cert.Kernel.Gen.k0_pay8 kScale expo field picked lane
  dsimp only

theorem pay14_form (v : FVec Ideal S1 .f32) :
    Cert.Kernel.Gen.k0_pay14 (F := Ideal) v = kScale (dTop v) (Scalar.mulf (F := Ideal) (φ := .f32) (dTop v) (Scalar.ofBits (F := Ideal) .f32 0x37924925#32)) := by
  unfold Cert.Kernel.Gen.k0_pay14 kScale expo field picked lane dTop
  dsimp only

theorem truncS (x : Ideal .f32) : Scalar.truncf (F := Ideal) .bf16 Cert.Kernel.Gen.bitsLt_bf16_f32 x = x := rfl

theorem pay16_form (v : FVec Ideal S1 .f32) :
    Cert.Kernel.Gen.k0_pay16 (F := Ideal) v
      = Scalar.truncf (F := Ideal) .bf16 Cert.Kernel.Gen.bitsLt_bf16_f32
          (kInv (dTop v) (Scalar.mulf (F := Ideal) (φ := .f32) (dTop v) (Scalar.ofBits (F := Ideal) .f32 0x37924925#32))) := by
  unfold Cert.Kernel.Gen.k0_pay16 kInv expo field picked lane dTop
  dsimp only

theorem rpay7_form (v : FVec Ideal S1x1x1 .f32) :
    Cert.ReferenceIdeal.Gen.k0_pay7 (F := Ideal) v
      = rScale (extractAt ![0, 0, 0] v Cert.ReferenceIdeal.Gen.inpos_S1x1x1_p0_0_0)
          (Scalar.mulf (F := Ideal) (φ := .f32) (extractAt ![0, 0, 0] v Cert.ReferenceIdeal.Gen.inpos_S1x1x1_p0_0_0) (Scalar.ofBits (F := Ideal) .f32 0x3B124925#32)) := by
  unfold Cert.ReferenceIdeal.Gen.k0_pay7 rScale least above powers lane
  dsimp only

theorem absd (d : S3x2048x1152.Idx → EReal) : absf (F := Ideal) (φ := .f32) (Cert.ReferenceIdeal.Gen.k0_pay3 (F := Ideal) d) = fun i => mag (d i) := rfl

theorem rpay4_form (d : S3x2048x1152.Idx → EReal) :
    Cert.ReferenceIdeal.Gen.k0_pay4 (F := Ideal) d
      = rScale (dRef d) (Scalar.mulf (F := Ideal) (φ := .f32) (dRef d) (Scalar.ofBits (F := Ideal) .f32 0x37924925#32)) := by
  unfold Cert.ReferenceIdeal.Gen.k0_pay4 rScale least above powers lane dRef
  rw [absd]

theorem wScale_form (w : S2176x1152.Idx → EReal) : wScale (F := Ideal) w = kScale (wAmax (F := Ideal) w) (wAmax (F := Ideal) w * cW) := by
  unfold wScale wRatio wAmax
  rw [pay9_form, pay7_form, timesW]
theorem wScale_ref (w : S2176x1152.Idx → EReal) :
    Cert.ReferenceIdeal.Gen.k0_pay7 (F := Ideal) (Cert.ReferenceIdeal.Gen.k0_pay6 (F := Ideal) w) = rScale (wRef w) (wRef w * cW) := by
  rw [rpay7_form, timesW]
  unfold wRef
  with_reducible rfl
theorem dScale_form (f : S6144x1152.Idx → EReal) : dScale (F := Ideal) f = kScale (dTop (dAmax (F := Ideal) f)) (dTop (dAmax (F := Ideal) f) * cD) := by
  unfold dScale
  rw [pay14_form, timesD]
theorem dInv_form (f : S6144x1152.Idx → EReal) :
    Cert.Kernel.Gen.k0_pay16 (F := Ideal) (dAmax (F := Ideal) f) = kInv (dTop (dAmax (F := Ideal) f)) (dTop (dAmax (F := Ideal) f) * cD) := by
  rw [pay16_form, timesD, truncS]
theorem dScale_ref (d : S3x2048x1152.Idx → EReal) : Cert.ReferenceIdeal.Gen.k0_pay4 (F := Ideal) d = rScale (dRef d) (dRef d * cD) := by
  rw [rpay4_form, timesD]

theorem wRange (w : S2176x1152.Idx → EReal) (h : ∀ i, mag (w i) ≤ most) : 0 ≤ wRef w ∧ wRef w ≤ most :=
  ⟨(mag_nonneg _).trans ((wRef_le w _).1 le_rfl (fun a => ⟨0, by revert a; decide⟩)), (wRef_le w _).2 h⟩
theorem dRange (d : S3x2048x1152.Idx → EReal) (h : ∀ i, mag (d i) ≤ most) : 0 ≤ dRef d ∧ dRef d ≤ most :=
  ⟨(mag_nonneg _).trans ((dRef_le d _).1 le_rfl (fun a => ⟨0, by revert a; decide⟩)), (dRef_le d _).2 h⟩

theorem wScale_eq (w : S2176x1152.Idx → EReal) (h : ∀ i, mag (w i) ≤ most) :
    wScale (F := Ideal) w = Cert.ReferenceIdeal.Gen.k0_pay7 (F := Ideal) (Cert.ReferenceIdeal.Gen.k0_pay6 (F := Ideal) w) := by
  rw [wScale_form, wScale_ref, wTop_eq]
  exact (scales_of _ _ cW_real (wRange w h).1 (wRange w h).2).1

theorem dScale_eq (d : S3x2048x1152.Idx → EReal) (h : ∀ i, mag (d i) ≤ most) :
    dScale (F := Ideal) (flat (F := Ideal) d) = Cert.ReferenceIdeal.Gen.k0_pay4 (F := Ideal) d := by
  rw [dScale_form, dScale_ref, dTop_eq]
  exact (scales_of _ _ cD_real (dRange d h).1 (dRange d h).2).1

/-! ## The codes -/

/-- An entry scaled and clipped. -/
def clip (lo hi inv x : EReal) : EReal := min hi (max lo (x * inv))

abbrev wLo : EReal := Ideal.ofBits .f32 0xC3E00000#32
abbrev wHi : EReal := Ideal.ofBits .f32 0x43E00000#32
abbrev dLo : EReal := Ideal.ofBits .f32 0xC7600000#32
abbrev dHi : EReal := Ideal.ofBits .f32 0x47600000#32

theorem clipW {s : Shape} (inv : EReal) (w : s.Idx → EReal) (h : FTy.fp8e4m3.bits < FTy.f32.bits) (x : s.Idx) :
    truncf (F := Ideal) .fp8e4m3 (minimumf (F := Ideal) (φ := .f32) (broadcast s (Scalar.ofBits (F := Ideal) .f32 0x43E00000#32))
      (maximumf (F := Ideal) (φ := .f32) (broadcast s (Scalar.ofBits (F := Ideal) .f32 0xC3E00000#32)) (mulf (F := Ideal) (φ := .f32) w (broadcast s inv)))) h x
      = clip wLo wHi inv (w x) := rfl
theorem clipD {s : Shape} (inv : EReal) (d : s.Idx → EReal) (h : FTy.fp8e5m2.bits < FTy.f32.bits) (x : s.Idx) :
    truncf (F := Ideal) .fp8e5m2 (minimumf (F := Ideal) (φ := .f32) (broadcast s (Scalar.ofBits (F := Ideal) .f32 0x47600000#32))
      (maximumf (F := Ideal) (φ := .f32) (broadcast s (Scalar.ofBits (F := Ideal) .f32 0xC7600000#32)) (mulf (F := Ideal) (φ := .f32) d (broadcast s inv)))) h x
      = clip dLo dHi inv (d x) := rfl
theorem over (y : EReal) : Scalar.divf (F := Ideal) (φ := .f32) (Scalar.ofBits (F := Ideal) .f32 0x3F800000#32) y = Ideal.div 1 y := by
  rw [← ofBits_one]
  with_unfolding_all rfl

theorem pay10_form (a x : Ideal .f32) (w : S544x1152.Idx → EReal) : Cert.Kernel.Gen.k0_pay10 (F := Ideal) a x Cert.Kernel.Gen.k0_pay8 lanes w
    = shapeCast S544x1152 (truncf (F := Ideal) .fp8e4m3 (minimumf (F := Ideal) (φ := .f32) (broadcast S544x1152 (Scalar.ofBits (F := Ideal) .f32 0x43E00000#32))
      (maximumf (F := Ideal) (φ := .f32) (broadcast S544x1152 (Scalar.ofBits (F := Ideal) .f32 0xC3E00000#32))
        (mulf (F := Ideal) (φ := .f32) w (broadcast S544x1152 (kInv a x))))) Cert.Kernel.Gen.bitsLt_fp8e4m3_f32)
      Cert.Kernel.Gen.shapeCasts_S544x1152_S544x1152 := by
  unfold Cert.Kernel.Gen.k0_pay10 Cert.Kernel.Gen.k0_pay8 kInv expo field picked lane
  dsimp only

theorem q10_form (a x : Ideal .f32) (w : EReal) : q10 (F := Ideal) a x Cert.Kernel.Gen.k0_pay8 lanes w = clip wLo wHi (kInv a x) w := by
  unfold q10
  rw [pay10_form, shapeCast_self, clipW]

theorem wCodes_form (w : S2176x1152.Idx → EReal) (x : S2176x1152.Idx) :
    wCodes (F := Ideal) w x = clip wLo wHi (kInv (wAmax (F := Ideal) w) (wAmax (F := Ideal) w * cW)) (w x) := by
  unfold wCodes WQ wRatio wAmax
  rw [q10_form, pay7_form, timesW]
theorem rpay8_form (w : S2176x1152.Idx → EReal) (v : S1x1x1.Idx → EReal) :
    Cert.ReferenceIdeal.Gen.k0_pay8 (F := Ideal) w v
      = truncf (F := Ideal) .fp8e4m3 (minimumf (F := Ideal) (φ := .f32) (broadcast S2176x1152 (Scalar.ofBits (F := Ideal) .f32 0x43E00000#32))
          (maximumf (F := Ideal) (φ := .f32) (broadcast S2176x1152 (Scalar.ofBits (F := Ideal) .f32 0xC3E00000#32)) (mulf (F := Ideal) (φ := .f32) w
            (broadcast S2176x1152 (Scalar.divf (F := Ideal) (φ := .f32) (Scalar.ofBits (F := Ideal) .f32 0x3F800000#32) (Cert.ReferenceIdeal.Gen.k0_pay7 (F := Ideal) v))))))
          Cert.ReferenceIdeal.Gen.bitsLt_fp8e4m3_f32 := by
  unfold Cert.ReferenceIdeal.Gen.k0_pay8
  dsimp only
theorem wCodes_ref (w : S2176x1152.Idx → EReal) (v : S1x1x1.Idx → EReal) (x : S2176x1152.Idx) :
    Cert.ReferenceIdeal.Gen.k0_pay8 (F := Ideal) w v x = clip wLo wHi (Ideal.div 1 (Cert.ReferenceIdeal.Gen.k0_pay7 (F := Ideal) v)) (w x) := by
  rw [rpay8_form, clipW, over]
theorem q2_form (v : EReal) (x : EReal) : q2 (F := Ideal) v x = clip dLo dHi v x := rfl
theorem ext3 (d : S3x2048x1152.Idx → EReal) : Cert.ReferenceIdeal.Gen.k0_pay3 (F := Ideal) d = d := rfl
theorem rpay5_form (d : S3x2048x1152.Idx → EReal) :
    Cert.ReferenceIdeal.Gen.k0_pay5 (F := Ideal) d
      = truncf (F := Ideal) .fp8e5m2 (minimumf (F := Ideal) (φ := .f32) (broadcast S3x2048x1152 (Scalar.ofBits (F := Ideal) .f32 0x47600000#32))
          (maximumf (F := Ideal) (φ := .f32) (broadcast S3x2048x1152 (Scalar.ofBits (F := Ideal) .f32 0xC7600000#32))
            (mulf (F := Ideal) (φ := .f32) (Cert.ReferenceIdeal.Gen.k0_pay3 (F := Ideal) d)
            (broadcast S3x2048x1152 (Scalar.divf (F := Ideal) (φ := .f32) (Scalar.ofBits (F := Ideal) .f32 0x3F800000#32) (Cert.ReferenceIdeal.Gen.k0_pay4 (F := Ideal) d))))))
          Cert.ReferenceIdeal.Gen.bitsLt_fp8e5m2_f32 := by
  unfold Cert.ReferenceIdeal.Gen.k0_pay5
  dsimp only
theorem dCodes_ref (d : S3x2048x1152.Idx → EReal) (x : S3x2048x1152.Idx) :
    Cert.ReferenceIdeal.Gen.k0_pay5 (F := Ideal) d x = clip dLo dHi (Ideal.div 1 (Cert.ReferenceIdeal.Gen.k0_pay4 (F := Ideal) d)) (d x) := by
  rw [rpay5_form, clipD, over, ext3]

theorem wCodes_eq (w : S2176x1152.Idx → EReal) (h : ∀ i, mag (w i) ≤ most) :
    wCodes (F := Ideal) w = Cert.ReferenceIdeal.Gen.k0_pay8 (F := Ideal) w (Cert.ReferenceIdeal.Gen.k0_pay6 (F := Ideal) w) := by
  funext x
  rw [wCodes_form, wCodes_ref, wScale_ref, wTop_eq, (scales_of _ _ cW_real (wRange w h).1 (wRange w h).2).2]

/-- The kernel's codes of the gradient are the reference's, laid out by rows. -/
theorem dCodes_eq (d : S3x2048x1152.Idx → EReal) (h : ∀ i, mag (d i) ≤ most) :
    dCodes (F := Ideal) (flat (F := Ideal) d) = shapeCast S6144x1152 (Cert.ReferenceIdeal.Gen.k0_pay5 (F := Ideal) d) Cert.Kernel.Gen.shapeCasts_S3x2048x1152_S6144x1152 := by
  funext x
  have e : ∀ v : EReal, YQ (F := Ideal) v (flat (F := Ideal) d) x = q2 (F := Ideal) v (d (Shape.reshapeEquiv Cert.Kernel.Gen.shapeCasts_S3x2048x1152_S6144x1152 x)) :=
    fun v => rfl
  have e' := dCodes_ref d (Shape.reshapeEquiv Cert.Kernel.Gen.shapeCasts_S3x2048x1152_S6144x1152 x)
  unfold dCodes
  refine (e _).trans (Eq.trans ?_ e'.symm)
  rw [q2_form, dInv_form, dScale_ref, dTop_eq, (scales_of _ _ cD_real (dRange d h).1 (dRange d h).2).2]

/-! ## The product -/

/-- The scaled product of the codes, by rows. -/
def prod (out : EReal) (dq : S6144x1152.Idx → EReal) (wq : S2176x1152.Idx → EReal) : S6144x2176.Idx → EReal := fun x =>
  (0 + ∑ k : Fin 1152, dq (ValueIdx.ix2 (x 0 : Fin 6144) k) * wq (ValueIdx.ix2 (x 1 : Fin 2176) k)) * out

theorem pay1_apply (v : EReal) (b : S512x1152.Idx → EReal) (x : S512x1152.Idx) : Cert.Kernel.Gen.k0_pay1 (F := Ideal) v b x = q2 (F := Ideal) v (b x) := rfl

theorem block_dot : Cert.Kernel.dot_S512x1152_S2176x1152_S512x2176_1_1_0_0_n_n = DotDims.transposedRhs 512 1152 2176 := rfl
theorem whole_dot : Cert.ReferenceIdeal.dot_S6144x1152_S2176x1152_S6144x2176_1_1_0_0_n_n = DotDims.transposedRhs 6144 1152 2176 := rfl

/-- A block of the kernel's result is the product's block of rows. -/
theorem oblk_apply (out v : EReal) (f : S6144x1152.Idx → EReal) (wq : S2176x1152.Idx → EReal) (i : Fin 12) (r : Fin 512) (c : Fin 2176)
    (z : S64x8x2176.Idx) (hz : (z 0 : ℕ) * 8 + (z 1 : ℕ) = r.val) (hc : (z 2 : ℕ) = c.val) :
    oblk (F := Ideal) out v (blk f (rD i)) wq z
      = prod out (YQ (F := Ideal) v f) wq (ValueIdx.ix2 (⟨512 * i.val + r.val, by omega⟩ : Fin 6144) c) := by
  have ez : Shape.reshapeEquiv Cert.Kernel.Gen.shapeCasts_S512x2176_S64x8x2176 z = ValueIdx.ix2 r c :=
    Shape.reshapeEquiv_eq_of_rowMajor _ (by
      rw [Shape.rowMajor_val_two, Shape.rowMajor_val_three]
      show r.val * 2176 + c.val = ((z 0 : ℕ) * 8 + (z 1 : ℕ)) * 2176 + (z 2 : ℕ)
      rw [hz, hc])
  have e : ∀ M : S512x2176.Idx → EReal, truncf (F := Ideal) (φ := .f32) .bf16 (shapeCast S64x8x2176 (mulf (F := Ideal) (φ := .f32) M (broadcast S512x2176 out))
      Cert.Kernel.Gen.shapeCasts_S512x2176_S64x8x2176) Cert.Kernel.Gen.bitsLt_bf16_f32 z
      = M (Shape.reshapeEquiv Cert.Kernel.Gen.shapeCasts_S512x2176_S64x8x2176 z) * out := fun M => rfl
  unfold oblk
  rw [e, ez, block_dot]
  refine Eq.trans (congrArg (· * out) (Ideal.matmul_transposedRhs_apply (M := 512) (K := 1152) (N := 2176) (φ₁ := .fp8e5m2) (φ₂ := .fp8e4m3) none
    (Cert.Kernel.Gen.k0_pay1 (F := Ideal) v (blk f (rD i))) wq (constant (F := Ideal) S512x2176 .f32 0x00000000#32) r c)) ?_
  have e0 : (constant (F := Ideal) S512x2176 .f32 0x00000000#32) (ValueIdx.ix2 r c) = 0 := ofBits_zero
  rw [e0]
  unfold prod
  refine congrArg (· * out) (congrArg (0 + ·) (Finset.sum_congr rfl fun k _ => ?_))
  refine congrArg (· * wq (ValueIdx.ix2 c k)) ?_
  rw [pay1_apply]
  unfold YQ
  refine congrArg (fun x => q2 (F := Ideal) v (f x)) (funext fun a => Fin.ext ?_)
  match a with
  | ⟨0, _⟩ => show 512 * i.val + 1 * r.val = 512 * i.val + r.val; omega
  | ⟨1, _⟩ => show 0 + 1 * k.val = k.val; omega

theorem sc_rows : S6144x2176.ShapeCasts S768x8x2176 := by decide

theorem regroup (x : S768x8x2176.Idx) (r : Fin 6144) (c : Fin 2176) (hr : (x 0 : ℕ) * 8 + (x 1 : ℕ) = r.val) (hc : (x 2 : ℕ) = c.val) :
    Shape.reshapeEquiv sc_rows x = ValueIdx.ix2 r c :=
  Shape.reshapeEquiv_eq_of_rowMajor _ (by
    rw [Shape.rowMajor_val_two, Shape.rowMajor_val_three]
    show r.val * 2176 + c.val = ((x 0 : ℕ) * 8 + (x 1 : ℕ)) * 2176 + (x 2 : ℕ)
    rw [hr, hc])

/-- The kernel's result is the product, regrouped. -/
theorem DX_eq (out v : EReal) (f : S6144x1152.Idx → EReal) (wq : S2176x1152.Idx → EReal) :
    DX (F := Ideal) out v f wq = shapeCast S768x8x2176 (prod out (YQ (F := Ideal) v f) wq) sc_rows := by
  funext x
  have h0 : (x 0 : ℕ) < 768 := (x 0).isLt
  have h1 : (x 1 : ℕ) < 8 := (x 1).isLt
  have e := oblk_apply out v f wq ⟨(x 0 : ℕ) / 64, by omega⟩ ⟨(x 0 : ℕ) % 64 * 8 + (x 1 : ℕ), by omega⟩ (x 2 : Fin 2176)
    (ValueIdx.ix3 (⟨(x 0 : ℕ) % 64, Nat.mod_lt _ (by decide)⟩ : Fin 64) (x 1 : Fin 8) (x 2 : Fin 2176)) rfl rfl
  have ex := regroup x (⟨512 * ((x 0 : ℕ) / 64) + ((x 0 : ℕ) % 64 * 8 + (x 1 : ℕ)), by omega⟩ : Fin 6144) (x 2 : Fin 2176)
    (by show (x 0 : ℕ) * 8 + (x 1 : ℕ) = 512 * ((x 0 : ℕ) / 64) + ((x 0 : ℕ) % 64 * 8 + (x 1 : ℕ)); omega) rfl
  exact Eq.trans e (congrArg (prod out (YQ (F := Ideal) v f) wq) ex.symm)

/-- The reference's product, by rows. -/
theorem pay9_eq (w : S2176x1152.Idx → EReal) (v29 : EReal) (dq : S3x2048x1152.Idx → EReal) (v41 : S1x1x1.Idx → EReal) :
    Cert.ReferenceIdeal.Gen.k0_pay9 (F := Ideal) w v29 dq v41
      = shapeCast S3x2048x2176 (prod (v29 * Cert.ReferenceIdeal.Gen.k0_pay7 (F := Ideal) v41)
          (shapeCast S6144x1152 dq Cert.ReferenceIdeal.Gen.shapeCasts_S3x2048x1152_S6144x1152) (Cert.ReferenceIdeal.Gen.k0_pay8 (F := Ideal) w v41))
          Cert.ReferenceIdeal.Gen.shapeCasts_S6144x2176_S3x2048x2176 := by
  unfold Cert.ReferenceIdeal.Gen.k0_pay9
  dsimp only
  have e1 : ∀ (M : S6144x2176.Idx → EReal) (o : EReal), truncf (F := Ideal) (φ := .f32) .bf16 (mulf (F := Ideal) (φ := .f32) M (broadcast S6144x2176 o))
      Cert.ReferenceIdeal.Gen.bitsLt_bf16_f32 = fun x => M x * o := fun M o => rfl
  rw [e1, times]
  refine congrArg (fun X => shapeCast S3x2048x2176 X Cert.ReferenceIdeal.Gen.shapeCasts_S6144x2176_S3x2048x2176) (funext fun x => ?_)
  obtain ⟨r, c, rfl⟩ : ∃ (r : Fin 6144) (c : Fin 2176), x = ValueIdx.ix2 r c := ⟨x 0, x 1, funext fun a => by
    match a with
    | ⟨0, _⟩ => rfl
    | ⟨1, _⟩ => rfl⟩
  have e := Ideal.matmul_transposedRhs_apply (M := 6144) (K := 1152) (N := 2176) (φ₁ := .fp8e5m2) (φ₂ := .fp8e4m3) none
    (shapeCast S6144x1152 dq Cert.ReferenceIdeal.Gen.shapeCasts_S3x2048x1152_S6144x1152) (Cert.ReferenceIdeal.Gen.k0_pay8 (F := Ideal) w v41)
    (constant (F := Ideal) S6144x2176 .f32 0x00000000#32) r c
  have e0 : (constant (F := Ideal) S6144x2176 .f32 0x00000000#32) (ValueIdx.ix2 r c) = 0 := ofBits_zero
  rw [e0, ← whole_dot] at e
  exact congrArg (· * (v29 * Cert.ReferenceIdeal.Gen.k0_pay7 (F := Ideal) v41)) e

/-- Regrouping twice is regrouping once. -/
theorem shapeCast_twice {s t u : Shape} {A : Type} (v : s.Idx → A) (h : s.ShapeCasts t) (h' : t.ShapeCasts u) (h'' : s.ShapeCasts u) :
    shapeCast u (shapeCast t v h) h' = shapeCast u v h'' := by
  funext i
  unfold shapeCast
  rw [Shape.reshapeEquiv_reshapeEquiv]

theorem pay15_form (s : EReal) (v : S1.Idx → EReal) : Cert.Kernel.Gen.k0_pay15 (F := Ideal) s v = Cert.Kernel.Gen.k0_pay14 (F := Ideal) v * s := by
  unfold Cert.Kernel.Gen.k0_pay15
  dsimp only
  rw [times]

theorem result_form (w : S2176x1152.Idx → EReal) (f : S6144x1152.Idx → EReal) :
    result (F := Ideal) w f = DX (F := Ideal) (dScale (F := Ideal) f * wScale (F := Ideal) w) (Cert.Kernel.Gen.k0_pay16 (F := Ideal) (dAmax (F := Ideal) f)) f (wCodes (F := Ideal) w) := by
  unfold result
  rw [pay15_form]
  unfold dScale
  with_reducible rfl

theorem result_eq (d : S3x2048x1152.Idx → EReal) (w : S2176x1152.Idx → EReal) (hd : ∀ i, mag (d i) ≤ most) (hw : ∀ i, mag (w i) ≤ most) :
    shapeCast S3x2048x2176 (result (F := Ideal) w (flat (F := Ideal) d)) Cert.Kernel.Gen.shapeCasts_S768x8x2176_S3x2048x2176
      = Cert.ReferenceIdeal.Gen.k0_pay9 (F := Ideal) w (Cert.ReferenceIdeal.Gen.k0_pay4 (F := Ideal) d) (Cert.ReferenceIdeal.Gen.k0_pay5 (F := Ideal) d)
          (Cert.ReferenceIdeal.Gen.k0_pay6 (F := Ideal) w) := by
  have ed : YQ (F := Ideal) (Cert.Kernel.Gen.k0_pay16 (F := Ideal) (dAmax (F := Ideal) (flat (F := Ideal) d))) (flat (F := Ideal) d) = _ := dCodes_eq d hd
  rw [result_form, DX_eq, ed, dScale_eq d hd, wScale_eq w hw, wCodes_eq w hw, pay9_eq]
  exact shapeCast_twice _ _ _ _

end Cert.Value

end
-- ==== Proof.ValueClaim.lean ====
/-
  Hand-written. The value claim: from memories agreeing on the arguments, no argument larger in magnitude than the largest
  finite float, the kernel's five results over the reals are the reference's.
-/
module

public import proofs.«01_k».proof.Proof.ValueResult

@[expose] public section

noncomputable section

namespace Cert.Value

open Idealize.ShloMosaic Idealize.SL.Sem Idealize.ShloMosaic.TcCoe
open Cert.Kernel (S1x1 S2176x1152 S6144x1152 S3x2048x1152 S3x2048x2176)
open Cert.Kernel.Hand Cert.KernelIdeal.Hand

theorem facts : Cert.Pre_finite.Facts := ⟨by decide, by decide, by decide, by decide⟩

/-! ## The reference's results, its loads read -/

theorem pay10_ld {F : FTy → Type} [FloatOps F] (d : Vec F Cert.ReferenceIdeal.S3x2048x1152 .bf16) (w : Vec F Cert.ReferenceIdeal.S2176x1152 .f32) :
    Cert.ReferenceIdeal.Gen.k0_pay10 d w = Cert.ReferenceIdeal.Gen.k0_pay5 d := by
  unfold Cert.ReferenceIdeal.Gen.k0_pay10
  rw [View.ld_unit_zero (S := Cert.ReferenceIdeal.S3x2048x1152) Cert.ReferenceIdeal.Value.hz0 _ d]
theorem pay11_ld {F : FTy → Type} [FloatOps F] (d : Vec F Cert.ReferenceIdeal.S3x2048x1152 .bf16) (w : Vec F Cert.ReferenceIdeal.S2176x1152 .f32) :
    Cert.ReferenceIdeal.Gen.k0_pay11 d w = Cert.ReferenceIdeal.Gen.k0_pay6 w := by
  unfold Cert.ReferenceIdeal.Gen.k0_pay11
  rw [View.ld_unit_zero (S := Cert.ReferenceIdeal.S2176x1152) Cert.ReferenceIdeal.Value.hz1 _ w]

section
variable (d : S3x2048x1152.Idx → EReal) (w : S2176x1152.Idx → EReal) (hd : ∀ i, mag (d i) ≤ most) (hw : ∀ i, mag (w i) ≤ most)
include hd hw

/-- The product. -/
theorem value0 : shapeCast S3x2048x2176 (result (F := Ideal) w (flat (F := Ideal) d)) Cert.Kernel.Gen.shapeCasts_S768x8x2176_S3x2048x2176
    = Cert.ReferenceIdeal.Value.G2 (F := Ideal) d w := by
  unfold Cert.ReferenceIdeal.Value.G2
  rw [pay10_ld, pay11_ld]
  exact result_eq d w hd hw

/-- The gradient's codes. -/
theorem value1 : shapeCast S3x2048x1152 (dCodes (F := Ideal) (flat (F := Ideal) d)) Cert.Kernel.Gen.shapeCasts_S6144x1152_S3x2048x1152
    = Cert.ReferenceIdeal.Value.G3 (F := Ideal) d w := by
  unfold Cert.ReferenceIdeal.Value.G3
  rw [pay10_ld, dCodes_eq d hd, shapeCast_twice _ _ _ rfl]
  exact shapeCast_self _ _

/-- The gradient's scale. -/
theorem value2 : (fun _ => dScale (F := Ideal) (flat (F := Ideal) d) : S1x1.Idx → EReal) = Cert.ReferenceIdeal.Value.G4 (F := Ideal) d w := by
  rw [dScale_eq d hd]
  rfl

/-- The weights' codes. -/
theorem value3 : wCodes (F := Ideal) w = Cert.ReferenceIdeal.Value.G5 (F := Ideal) d w := by
  unfold Cert.ReferenceIdeal.Value.G5
  rw [pay11_ld]
  exact wCodes_eq w hw

/-- The weights' scale. -/
theorem value4 : (fun _ => wScale (F := Ideal) w : S1x1.Idx → EReal) = Cert.ReferenceIdeal.Value.G6 (F := Ideal) d w := by
  unfold Cert.ReferenceIdeal.Value.G6
  rw [pay11_ld, wScale_eq w hw]
  rfl
end

/-! ## The claim -/

theorem algebraic : Cert.algebraic_KernelIdeal_ReferenceIdeal_pre_finite (hKernelIdeal := Cert.KernelIdeal.Gen.facts)
    (hReferenceIdeal := Cert.ReferenceIdeal.Gen.facts) (hPre_finite := facts) := by
  intro m g m' g' hpre hagree
  have hfin := fun c : Dev Cert.KernelIdeal.nD => @finite_of facts _ _ (hpre c)
  refine ⟨fun c => Cert.ReferenceIdeal.Value.G2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Value.G3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Value.G4 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Value.G5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Value.G6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    (θ_run _ _ _).mono (fun r h c => ?_) (Cert.KernelIdeal.Hand.outcome (F := Ideal) m g),
    (θ_run _ _ _).mono (fun r h c => ?_) (Cert.ReferenceIdeal.Value.run (F := Ideal) m' g')⟩
  · obtain ⟨h0, h1, h2, h3, h4, h5⟩ := h.1 c
    exact ⟨h0.trans (value0 _ _ (hfin c).1 (hfin c).2), h1.trans (value1 _ _ (hfin c).1 (hfin c).2), h2.trans (value2 _ _ (hfin c).1 (hfin c).2),
      h3.trans (value3 _ _ (hfin c).1 (hfin c).2), h4.trans (value4 _ _ (hfin c).1 (hfin c).2), h5⟩
  · have hc := h c
    obtain ⟨e0, e1⟩ := hagree c
    obtain ⟨h0, h1, h2, h3, h4, h5⟩ := hc
    exact ⟨h0.trans (congrArg₂ (Cert.ReferenceIdeal.Value.G2 (F := Ideal)) e0 e1), h1.trans (congrArg₂ (Cert.ReferenceIdeal.Value.G3 (F := Ideal)) e0 e1),
      h2.trans (congrArg₂ (Cert.ReferenceIdeal.Value.G4 (F := Ideal)) e0 e1), h3.trans (congrArg₂ (Cert.ReferenceIdeal.Value.G5 (F := Ideal)) e0 e1),
      h4.trans (congrArg₂ (Cert.ReferenceIdeal.Value.G6 (F := Ideal)) e0 e1), h5⟩

end Cert.Value

end
-- ==== Proof.lean ====
/-
  Hand-written. The claims, each from the module that proves it.
-/
module

public import proofs.«01_k».proof.Defs
public import proofs.«01_k».proof.Proof.KernelFrame
public import proofs.«01_k».proof.Proof.KernelIdealRun
public import proofs.«01_k».proof.Proof.ValueClaim
public import proofs.«01_k».proof.Proof.Gen.ReferenceIdeal.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Value.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  Cert.Value.algebraic⟩

end Cert.Proof

end
